-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S8x4096x1024 : Shape := ⟨3, ![8, 4096, 1024]⟩
abbrev S8x4096x32 : Shape := ⟨3, ![8, 4096, 32]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  main_v18

def fn {F : FTy → Type} [FloatOps F] (main_arg0 : FVec F S8x4096x512 .f32) (main_arg1 : FVec F S8x4096x512 .f32) (main_arg2 : FVec F S8x4096x1024 .f32) (main_arg3 : FVec F S8x4096x32 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x4096x32 .f32 := Host.absf main_arg3
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_v13 main_v16
-- ==== Kernel.lean ====
abbrev S8x4096x512 : Shape := ⟨3, ![8, 4096, 512]⟩
abbrev S8x4096x1024 : Shape := ⟨3, ![8, 4096, 1024]⟩
abbrev S8x4096x32 : Shape := ⟨3, ![8, 4096, 32]⟩
abbrev S8x4096x16 : Shape := ⟨3, ![8, 4096, 16]⟩
abbrev S8x16x256x16 : Shape := ⟨4, ![8, 16, 256, 16]⟩
abbrev S8x16x16x256 : Shape := ⟨4, ![8, 16, 16, 256]⟩
abbrev S8x16x8x256 : Shape := ⟨4, ![8, 16, 8, 256]⟩
abbrev S_ : Shape := ⟨0, ![]⟩
abbrev S256x256 : Shape := ⟨2, ![256, 256]⟩
abbrev S8x16x8x1x256 : Shape := ⟨5, ![8, 16, 8, 1, 256]⟩
abbrev S8x16x8x256x256 : Shape := ⟨5, ![8, 16, 8, 256, 256]⟩
abbrev S8x16x8 : Shape := ⟨3, ![8, 16, 8]⟩
abbrev S8x16x8x1 : Shape := ⟨4, ![8, 16, 8, 1]⟩
abbrev S8x16x24x256 : Shape := ⟨4, ![8, 16, 24, 256]⟩
abbrev S8x16x32x256 : Shape := ⟨4, ![8, 16, 32, 256]⟩
abbrev S8x16x256x32 : Shape := ⟨4, ![8, 16, 256, 32]⟩
abbrev S1x512x512 : Shape := ⟨3, ![1, 512, 512]⟩
abbrev S1x512x1024 : Shape := ⟨3, ![1, 512, 1024]⟩
abbrev S1x2x24x256 : Shape := ⟨4, ![1, 2, 24, 256]⟩
abbrev S1x512x32 : Shape := ⟨3, ![1, 512, 32]⟩
abbrev S4x128x256 : Shape := ⟨3, ![4, 128, 256]⟩
abbrev S8x256 : Shape := ⟨2, ![8, 256]⟩
abbrev S1x256x512 : Shape := ⟨3, ![1, 256, 512]⟩
abbrev S256x512 : Shape := ⟨2, ![256, 512]⟩
abbrev S1x256x1024 : Shape := ⟨3, ![1, 256, 1024]⟩
abbrev S256x1024 : Shape := ⟨2, ![256, 1024]⟩
abbrev S1x1x24x256 : Shape := ⟨4, ![1, 1, 24, 256]⟩
abbrev S24x256 : Shape := ⟨2, ![24, 256]⟩
abbrev S1x256x32 : Shape := ⟨3, ![1, 256, 32]⟩
abbrev S256x32 : Shape := ⟨2, ![256, 32]⟩
abbrev S256x128 : Shape := ⟨2, ![256, 128]⟩
abbrev S512x128 : Shape := ⟨2, ![512, 128]⟩
abbrev S512x256 : Shape := ⟨2, ![512, 256]⟩
abbrev S1x128 : Shape := ⟨2, ![1, 128]⟩
abbrev S256x1 : Shape := ⟨2, ![256, 1]⟩
abbrev S1x256 : Shape := ⟨2, ![1, 256]⟩
abbrev S256x384 : Shape := ⟨2, ![256, 384]⟩
abbrev S1x128x256 : Shape := ⟨3, ![1, 128, 256]⟩
abbrev S128x256 : Shape := ⟨2, ![128, 256]⟩
abbrev S384x256 : Shape := ⟨2, ![384, 256]⟩
abbrev S1x256x128 : Shape := ⟨3, ![1, 256, 128]⟩
abbrev S64x128 : Shape := ⟨2, ![64, 128]⟩
abbrev S128x128 : Shape := ⟨2, ![128, 128]⟩

abbrev nBuf : Space → Nat
  | .hbm => 152
  | .vmem => 28
  | .smem => 0
  | _ => 0

abbrev hbmTy0_0 (i : Nat) : BufTy := match i % 128 with
  | 0 => ⟨S8x4096x512, .f32⟩
  | 1 => ⟨S8x4096x512, .f32⟩
  | 2 => ⟨S8x4096x1024, .f32⟩
  | 3 => ⟨S8x4096x32, .f32⟩
  | 4 => ⟨S8x4096x16, .f32⟩
  | 5 => ⟨S8x16x256x16, .f32⟩
  | 6 => ⟨S8x16x16x256, .f32⟩
  | 7 => ⟨S8x16x8x256, .f32⟩
  | 8 => ⟨S8x16x8x256, .f32⟩
  | 9 => ⟨S8x16x8x256, .f32⟩
  | 10 => ⟨S_, .f32⟩
  | 11 => ⟨S8x16x8x256, .f32⟩
  | 12 => ⟨S8x16x8x256, .f32⟩
  | 13 => ⟨S8x16x8x256, .f32⟩
  | 14 => ⟨S8x16x8x256, .f32⟩
  | 15 => ⟨S8x16x8x256, .i1⟩
  | 16 => ⟨S8x16x8x256, .f32⟩
  | 17 => ⟨S8x16x8x256, .f32⟩
  | 18 => ⟨S8x16x8x256, .f32⟩
  | 19 => ⟨S8x16x8x256, .f32⟩
  | 20 => ⟨S8x16x8x256, .f32⟩
  | 21 => ⟨S8x16x8x256, .f32⟩
  | 22 => ⟨S8x16x8x256, .f32⟩
  | 23 => ⟨S8x16x8x256, .f32⟩
  | 24 => ⟨S8x16x8x256, .f32⟩
  | 25 => ⟨S256x256, .i32⟩
  | 26 => ⟨S256x256, .i32⟩
  | 27 => ⟨S256x256, .i1⟩
  | 28 => ⟨S8x16x8x1x256, .f32⟩
  | 29 => ⟨S_, .f32⟩
  | 30 => ⟨S_, .f32⟩
  | 31 => ⟨S8x16x8x256x256, .i1⟩
  | 32 => ⟨S8x16x8x256x256, .f32⟩
  | 33 => ⟨S8x16x8x256x256, .f32⟩
  | 34 => ⟨S8x16x8x256x256, .f32⟩
  | 35 => ⟨S_, .f32⟩
  | 36 => ⟨S8x16x8x256, .f32⟩
  | 37 => ⟨S8x16x8x256, .f32⟩
  | 38 => ⟨S8x16x8x1x256, .f32⟩
  | 39 => ⟨S_, .f32⟩
  | 40 => ⟨S_, .f32⟩
  | 41 => ⟨S8x16x8x256x256, .i1⟩
  | 42 => ⟨S8x16x8x256x256, .f32⟩
  | 43 => ⟨S8x16x8x256x256, .f32⟩
  | 44 => ⟨S8x16x8x256x256, .f32⟩
  | 45 => ⟨S_, .f32⟩
  | 46 => ⟨S8x16x8x256, .f32⟩
  | 47 => ⟨S_, .f32⟩
  | 48 => ⟨S8x16x8, .f32⟩
  | 49 => ⟨S8x16x8x1, .f32⟩
  | 50 => ⟨S8x16x8x256, .f32⟩
  | 51 => ⟨S8x16x8x256, .f32⟩
  | 52 => ⟨S_, .f32⟩
  | 53 => ⟨S8x16x8, .f32⟩
  | 54 => ⟨S8x16x8x1, .f32⟩
  | 55 => ⟨S8x16x8x256, .f32⟩
  | 56 => ⟨S_, .f32⟩
  | 57 => ⟨S_, .f32⟩
  | 58 => ⟨S8x16x24x256, .f32⟩
  | 59 => ⟨S8x16x24x256, .f32⟩
  | 60 => ⟨S8x16x24x256, .f32⟩
  | 61 => ⟨S8x16x8x256, .f32⟩
  | 62 => ⟨S8x16x8x256, .f32⟩
  | 63 => ⟨S8x16x8x256, .f32⟩
  | 64 => ⟨S8x16x8x256, .f32⟩
  | 65 => ⟨S8x16x8x256, .f32⟩
  | 66 => ⟨S8x16x8x256, .f32⟩
  | 67 => ⟨S8x16x8x256, .f32⟩
  | 68 => ⟨S8x16x8x256, .f32⟩
  | 69 => ⟨S_, .f32⟩
  | 70 => ⟨S8x16x8x256, .f32⟩
  | 71 => ⟨S8x16x32x256, .f32⟩
  | 72 => ⟨S8x16x256x32, .f32⟩
  | 73 => ⟨S8x4096x32, .f32⟩
  | 74 => ⟨S8x4096x16, .f32⟩
  | 75 => ⟨S8x16x256x16, .f32⟩
  | 76 => ⟨S8x16x16x256, .f32⟩
  | 77 => ⟨S8x16x8x256, .f32⟩
  | 78 => ⟨S8x16x8x256, .f32⟩
  | 79 => ⟨S8x16x8x256, .f32⟩
  | 80 => ⟨S_, .f32⟩
  | 81 => ⟨S8x16x8x256, .f32⟩
  | 82 => ⟨S8x16x8x256, .f32⟩
  | 83 => ⟨S8x16x8x256, .f32⟩
  | 84 => ⟨S8x16x8x256, .f32⟩
  | 85 => ⟨S8x16x8x256, .i1⟩
  | 86 => ⟨S8x16x8x256, .f32⟩
  | 87 => ⟨S8x16x8x256, .f32⟩
  | 88 => ⟨S8x16x8x256, .f32⟩
  | 89 => ⟨S8x16x8x256, .f32⟩
  | 90 => ⟨S8x16x8x256, .f32⟩
  | 91 => ⟨S8x16x8x256, .f32⟩
  | 92 => ⟨S8x16x8x256, .f32⟩
  | 93 => ⟨S8x16x8x256, .f32⟩
  | 94 => ⟨S8x16x8x256, .f32⟩
  | 95 => ⟨S256x256, .i32⟩
  | 96 => ⟨S256x256, .i32⟩
  | 97 => ⟨S256x256, .i1⟩
  | 98 => ⟨S8x16x8x1x256, .f32⟩
  | 99 => ⟨S_, .f32⟩
  | 100 => ⟨S_, .f32⟩
  | 101 => ⟨S8x16x8x256x256, .i1⟩
  | 102 => ⟨S8x16x8x256x256, .f32⟩
  | 103 => ⟨S8x16x8x256x256, .f32⟩
  | 104 => ⟨S8x16x8x256x256, .f32⟩
  | 105 => ⟨S_, .f32⟩
  | 106 => ⟨S8x16x8x256, .f32⟩
  | 107 => ⟨S8x16x8x256, .f32⟩
  | 108 => ⟨S8x16x8x1x256, .f32⟩
  | 109 => ⟨S_, .f32⟩
  | 110 => ⟨S_, .f32⟩
  | 111 => ⟨S8x16x8x256x256, .i1⟩
  | 112 => ⟨S8x16x8x256x256, .f32⟩
  | 113 => ⟨S8x16x8x256x256, .f32⟩
  | 114 => ⟨S8x16x8x256x256, .f32⟩
  | 115 => ⟨S_, .f32⟩
  | 116 => ⟨S8x16x8x256, .f32⟩
  | 117 => ⟨S_, .f32⟩
  | 118 => ⟨S8x16x8, .f32⟩
  | 119 => ⟨S8x16x8x1, .f32⟩
  | 120 => ⟨S8x16x8x256, .f32⟩
  | 121 => ⟨S8x16x8x256, .f32⟩
  | 122 => ⟨S_, .f32⟩
  | 123 => ⟨S8x16x8, .f32⟩
  | 124 => ⟨S8x16x8x1, .f32⟩
  | 125 => ⟨S8x16x8x256, .f32⟩
  | 126 => ⟨S_, .f32⟩
  | 127 => ⟨S_, .f32⟩
  | _ => ⟨S8x4096x512, .f32⟩

abbrev hbmTy0_1 (i : Nat) : BufTy := match i % 128 with
  | 0 => ⟨S8x16x24x256, .f32⟩
  | 1 => ⟨S8x16x24x256, .f32⟩
  | 2 => ⟨S8x16x24x256, .f32⟩
  | 3 => ⟨S8x16x8x256, .f32⟩
  | 4 => ⟨S8x16x8x256, .f32⟩
  | 5 => ⟨S8x16x8x256, .f32⟩
  | 6 => ⟨S8x16x8x256, .f32⟩
  | 7 => ⟨S8x16x8x256, .f32⟩
  | 8 => ⟨S8x16x8x256, .f32⟩
  | 9 => ⟨S8x16x8x256, .f32⟩
  | 10 => ⟨S8x16x8x256, .f32⟩
  | 11 => ⟨S_, .f32⟩
  | 12 => ⟨S8x16x8x256, .f32⟩
  | 13 => ⟨S8x16x32x256, .f32⟩
  | 14 => ⟨S8x16x256x32, .f32⟩
  | 15 => ⟨S8x4096x32, .f32⟩
  | 16 => ⟨S8x4096x512, .bf16⟩
  | 17 => ⟨S_, .f32⟩
  | 18 => ⟨S8x4096x512, .f32⟩
  | 19 => ⟨S8x4096x512, .f32⟩
  | 20 => ⟨S8x4096x512, .bf16⟩
  | 21 => ⟨S8x4096x1024, .bf16⟩
  | 22 => ⟨S8x4096x1024, .f32⟩
  | 23 => ⟨S8x4096x1024, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x2x24x256, .f32⟩
  | .local _ .vmem, ⟨7, _⟩ => ⟨S1x2x24x256, .f32⟩
  | .local _ .vmem, ⟨8, _⟩ => ⟨S1x512x32, .f32⟩
  | .local _ .vmem, ⟨9, _⟩ => ⟨S1x512x32, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x2x24x256, .f32⟩
  | .local _ .vmem, ⟨17, _⟩ => ⟨S1x2x24x256, .f32⟩
  | .local _ .vmem, ⟨18, _⟩ => ⟨S1x512x32, .f32⟩
  | .local _ .vmem, ⟨19, _⟩ => ⟨S1x512x32, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S4x128x256, .f32⟩
  | .local _ .vmem, ⟨25, _⟩ => ⟨S4x128x256, .f32⟩
  | .local _ .vmem, ⟨26, _⟩ => ⟨S8x256, .f32⟩
  | .local _ .vmem, ⟨27, _⟩ => ⟨S8x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_v81 : Ref sig .tc := ⟨.hbm, 114, rfl⟩
abbrev main_cst_12 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_17 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111_0 : Ref sig .tc := ⟨.hbm, 150, rfl⟩
abbrev main_v111_1 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x24x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x24x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x512 : Shape := ⟨3, ![8, 4096, 512]⟩
abbrev S8x4096x1024 : Shape := ⟨3, ![8, 4096, 1024]⟩
abbrev S8x4096x32 : Shape := ⟨3, ![8, 4096, 32]⟩
abbrev S8x4096x8x64 : Shape := ⟨4, ![8, 4096, 8, 64]⟩
abbrev S8x8x4096x64 : Shape := ⟨4, ![8, 8, 4096, 64]⟩
abbrev S_ : Shape := ⟨0, ![]⟩
abbrev S8x4096x8x128 : Shape := ⟨4, ![8, 4096, 8, 128]⟩
abbrev S8x8x4096x128 : Shape := ⟨4, ![8, 8, 4096, 128]⟩
abbrev S8x4096x4x8 : Shape := ⟨4, ![8, 4096, 4, 8]⟩
abbrev S4x8x8x4096 : Shape := ⟨4, ![4, 8, 8, 4096]⟩
abbrev S16x8x4096x64 : Shape := ⟨4, ![16, 8, 4096, 64]⟩
abbrev S16x8x4096x128 : Shape := ⟨4, ![16, 8, 4096, 128]⟩
abbrev S1x8x8x4096 : Shape := ⟨4, ![1, 8, 8, 4096]⟩
abbrev S8x8x4096 : Shape := ⟨3, ![8, 8, 4096]⟩
abbrev S16x8x4096 : Shape := ⟨3, ![16, 8, 4096]⟩
abbrev S16x8x64x64x64 : Shape := ⟨5, ![16, 8, 64, 64, 64]⟩
abbrev S16x8x64x64x128 : Shape := ⟨5, ![16, 8, 64, 64, 128]⟩
abbrev S16x8x64x64 : Shape := ⟨4, ![16, 8, 64, 64]⟩
abbrev S16x8x64x128 : Shape := ⟨4, ![16, 8, 64, 128]⟩
abbrev S16x8x64 : Shape := ⟨3, ![16, 8, 64]⟩
abbrev S16x8 : Shape := ⟨2, ![16, 8]⟩
abbrev S64x16x8x64x128 : Shape := ⟨5, ![64, 16, 8, 64, 128]⟩
abbrev S64x16x8x64x64 : Shape := ⟨5, ![64, 16, 8, 64, 64]⟩
abbrev S64x16x8x64 : Shape := ⟨4, ![64, 16, 8, 64]⟩
abbrev S1x16x8x64x64 : Shape := ⟨5, ![1, 16, 8, 64, 64]⟩
abbrev S1x16x8x64x128 : Shape := ⟨5, ![1, 16, 8, 64, 128]⟩
abbrev S1x16x8x64 : Shape := ⟨4, ![1, 16, 8, 64]⟩
abbrev S16x8x1 : Shape := ⟨3, ![16, 8, 1]⟩
abbrev S16x8x64x1 : Shape := ⟨4, ![16, 8, 64, 1]⟩
abbrev S16x8x1x64 : Shape := ⟨4, ![16, 8, 1, 64]⟩
abbrev S64x64 : Shape := ⟨2, ![64, 64]⟩
abbrev S16x8x1x1 : Shape := ⟨4, ![16, 8, 1, 1]⟩
abbrev S63x16x8x64x128 : Shape := ⟨5, ![63, 16, 8, 64, 128]⟩

abbrev nBuf : Space → Nat
  | .hbm => 219
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x1024, .f32⟩
  | 3 => ⟨S8x4096x32, .f32⟩
  | 4 => ⟨S8x4096x8x64, .f32⟩
  | 5 => ⟨S8x8x4096x64, .f32⟩
  | 6 => ⟨S8x4096x8x64, .f32⟩
  | 7 => ⟨S8x8x4096x64, .f32⟩
  | 8 => ⟨S_, .f32⟩
  | 9 => ⟨S8x8x4096x64, .f32⟩
  | 10 => ⟨S8x8x4096x64, .f32⟩
  | 11 => ⟨S8x4096x8x128, .f32⟩
  | 12 => ⟨S8x8x4096x128, .f32⟩
  | 13 => ⟨S8x4096x4x8, .f32⟩
  | 14 => ⟨S4x8x8x4096, .f32⟩
  | 15 => ⟨S8x8x4096x64, .f32⟩
  | 16 => ⟨S16x8x4096x64, .f32⟩
  | 17 => ⟨S8x8x4096x64, .f32⟩
  | 18 => ⟨S16x8x4096x64, .f32⟩
  | 19 => ⟨S8x8x4096x128, .f32⟩
  | 20 => ⟨S16x8x4096x128, .f32⟩
  | 21 => ⟨S1x8x8x4096, .f32⟩
  | 22 => ⟨S8x8x4096, .f32⟩
  | 23 => ⟨S1x8x8x4096, .f32⟩
  | 24 => ⟨S8x8x4096, .f32⟩
  | 25 => ⟨S8x8x4096, .f32⟩
  | 26 => ⟨S16x8x4096, .f32⟩
  | 27 => ⟨S1x8x8x4096, .f32⟩
  | 28 => ⟨S8x8x4096, .f32⟩
  | 29 => ⟨S1x8x8x4096, .f32⟩
  | 30 => ⟨S8x8x4096, .f32⟩
  | 31 => ⟨S8x8x4096, .f32⟩
  | 32 => ⟨S16x8x4096, .f32⟩
  | 33 => ⟨S16x8x64x64x64, .f32⟩
  | 34 => ⟨S16x8x64x64x64, .f32⟩
  | 35 => ⟨S16x8x64x64x128, .f32⟩
  | 36 => ⟨S16x8x4096, .f32⟩
  | 37 => ⟨S_, .f32⟩
  | 38 => ⟨S16x8x4096, .f32⟩
  | 39 => ⟨S16x8x4096, .f32⟩
  | 40 => ⟨S16x8x4096, .f32⟩
  | 41 => ⟨S16x8x4096, .f32⟩
  | 42 => ⟨S16x8x4096, .i1⟩
  | 43 => ⟨S16x8x4096, .f32⟩
  | 44 => ⟨S16x8x4096, .f32⟩
  | 45 => ⟨S16x8x4096, .f32⟩
  | 46 => ⟨S16x8x4096, .f32⟩
  | 47 => ⟨S16x8x4096, .f32⟩
  | 48 => ⟨S16x8x4096, .f32⟩
  | 49 => ⟨S16x8x4096, .f32⟩
  | 50 => ⟨S16x8x4096, .f32⟩
  | 51 => ⟨S16x8x4096, .f32⟩
  | 52 => ⟨S16x8x64x64, .f32⟩
  | 53 => ⟨S16x8x64x64, .f32⟩
  | 54 => ⟨S_, .f32⟩
  | 55 => ⟨S16x8x64x128, .f32⟩
  | 56 => ⟨S_, .f32⟩
  | 57 => ⟨S16x8x64, .f32⟩
  | 58 => ⟨S_, .f32⟩
  | 59 => ⟨S16x8, .f32⟩
  | 60 => ⟨S_, .f32⟩
  | 61 => ⟨S64x16x8x64x128, .f32⟩
  | 62 => ⟨S64x16x8x64x64, .f32⟩
  | 63 => ⟨S64x16x8x64x64, .f32⟩
  | 64 => ⟨S64x16x8x64x128, .f32⟩
  | 65 => ⟨S64x16x8x64, .f32⟩
  | 66 => ⟨S64x16x8x64, .f32⟩
  | 67 => ⟨S_, .i32⟩
  | 68 => ⟨S64x16x8x64x64, .f32⟩
  | 69 => ⟨S64x16x8x64x64, .f32⟩
  | 70 => ⟨S64x16x8x64x128, .f32⟩
  | 71 => ⟨S64x16x8x64, .f32⟩
  | 72 => ⟨S64x16x8x64, .f32⟩
  | 73 => ⟨S_, .i32⟩
  | 74 => ⟨S16x8x64x128, .f32⟩
  | 75 => ⟨S16x8x64, .f32⟩
  | 76 => ⟨S16x8, .f32⟩
  | 77 => ⟨S64x16x8x64x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x16x8x64x64, .f32⟩
  | 85 => ⟨S16x8x64x64, .f32⟩
  | 86 => ⟨S_, .i32⟩
  | 87 => ⟨S_, .i32⟩
  | 88 => ⟨S_, .i32⟩
  | 89 => ⟨S_, .i32⟩
  | 90 => ⟨S1x16x8x64x64, .f32⟩
  | 91 => ⟨S16x8x64x64, .f32⟩
  | 92 => ⟨S_, .i32⟩
  | 93 => ⟨S_, .i32⟩
  | 94 => ⟨S_, .i32⟩
  | 95 => ⟨S_, .i32⟩
  | 96 => ⟨S1x16x8x64x128, .f32⟩
  | 97 => ⟨S16x8x64x128, .f32⟩
  | 98 => ⟨S_, .i32⟩
  | 99 => ⟨S_, .i32⟩
  | 100 => ⟨S_, .i32⟩
  | 101 => ⟨S1x16x8x64, .f32⟩
  | 102 => ⟨S16x8x64, .f32⟩
  | 103 => ⟨S_, .i32⟩
  | 104 => ⟨S_, .i32⟩
  | 105 => ⟨S_, .i32⟩
  | 106 => ⟨S1x16x8x64, .f32⟩
  | 107 => ⟨S16x8x64, .f32⟩
  | 108 => ⟨S_, .f32⟩
  | 109 => ⟨S_, .f32⟩
  | 110 => ⟨S16x8x64, .f32⟩
  | 111 => ⟨S16x8x1, .f32⟩
  | 112 => ⟨S16x8, .f32⟩
  | 113 => ⟨S16x8x64x1, .f32⟩
  | 114 => ⟨S16x8x1x64, .f32⟩
  | 115 => ⟨S16x8x64x64, .f32⟩
  | 116 => ⟨S16x8x64x64, .f32⟩
  | 117 => ⟨S16x8x64x64, .f32⟩
  | 118 => ⟨S16x8x1x64, .f32⟩
  | 119 => ⟨S16x8x64x64, .f32⟩
  | 120 => ⟨S16x8x64x64, .f32⟩
  | 121 => ⟨S_, .i1⟩
  | 122 => ⟨S64x64, .i1⟩
  | 123 => ⟨S64x64, .i32⟩
  | 124 => ⟨S_, .i32⟩
  | 125 => ⟨S64x64, .i32⟩
  | 126 => ⟨S64x64, .i32⟩
  | 127 => ⟨S64x64, .i32⟩
  | _ => ⟨S8x4096x512, .f32⟩

abbrev hbmTy0_1 (i : Nat) : BufTy := match i % 128 with
  | 0 => ⟨S64x64, .i1⟩
  | 1 => ⟨S_, .i1⟩
  | 2 => ⟨S64x64, .i1⟩
  | 3 => ⟨S64x64, .i1⟩
  | 4 => ⟨S_, .f32⟩
  | 5 => ⟨S_, .f32⟩
  | 6 => ⟨S16x8x64x64, .i1⟩
  | 7 => ⟨S16x8x64x64, .f32⟩
  | 8 => ⟨S16x8x64x64, .f32⟩
  | 9 => ⟨S16x8x1, .f32⟩
  | 10 => ⟨S16x8x64, .f32⟩
  | 11 => ⟨S16x8x64, .f32⟩
  | 12 => ⟨S_, .f32⟩
  | 13 => ⟨S16x8x64, .f32⟩
  | 14 => ⟨S16x8x64, .f32⟩
  | 15 => ⟨S16x8x64x64, .f32⟩
  | 16 => ⟨S16x8x64x1, .f32⟩
  | 17 => ⟨S16x8x64x64, .f32⟩
  | 18 => ⟨S16x8x64x64, .f32⟩
  | 19 => ⟨S16x8x64x64, .f32⟩
  | 20 => ⟨S16x8x64x64, .f32⟩
  | 21 => ⟨S16x8x64, .f32⟩
  | 22 => ⟨S16x8x64, .f32⟩
  | 23 => ⟨S16x8x64x128, .f32⟩
  | 24 => ⟨S16x8x64x1, .f32⟩
  | 25 => ⟨S16x8x64x128, .f32⟩
  | 26 => ⟨S16x8x64x128, .f32⟩
  | 27 => ⟨S16x8x64x128, .f32⟩
  | 28 => ⟨S16x8x64x128, .f32⟩
  | 29 => ⟨S_, .f32⟩
  | 30 => ⟨S16x8x64, .f32⟩
  | 31 => ⟨S16x8x64, .f32⟩
  | 32 => ⟨S16x8x64, .f32⟩
  | 33 => ⟨S16x8x64, .f32⟩
  | 34 => ⟨S16x8x64, .f32⟩
  | 35 => ⟨S16x8x64, .f32⟩
  | 36 => ⟨S16x8x64, .f32⟩
  | 37 => ⟨S16x8x64, .f32⟩
  | 38 => ⟨S16x8x64x1, .f32⟩
  | 39 => ⟨S16x8x64x128, .f32⟩
  | 40 => ⟨S16x8x64x128, .f32⟩
  | 41 => ⟨S16x8x1, .f32⟩
  | 42 => ⟨S16x8x64, .f32⟩
  | 43 => ⟨S16x8x64, .f32⟩
  | 44 => ⟨S16x8x64, .f32⟩
  | 45 => ⟨S_, .f32⟩
  | 46 => ⟨S16x8, .f32⟩
  | 47 => ⟨S16x8x1, .f32⟩
  | 48 => ⟨S16x8x64, .f32⟩
  | 49 => ⟨S16x8x64, .f32⟩
  | 50 => ⟨S16x8x64, .f32⟩
  | 51 => ⟨S16x8x64x1, .f32⟩
  | 52 => ⟨S16x8x64x64, .f32⟩
  | 53 => ⟨S16x8x64x64, .f32⟩
  | 54 => ⟨S16x8x64x128, .f32⟩
  | 55 => ⟨S16x8x64, .f32⟩
  | 56 => ⟨S16x8, .f32⟩
  | 57 => ⟨S16x8, .f32⟩
  | 58 => ⟨S16x8, .f32⟩
  | 59 => ⟨S16x8, .f32⟩
  | 60 => ⟨S16x8, .f32⟩
  | 61 => ⟨S16x8, .f32⟩
  | 62 => ⟨S16x8, .f32⟩
  | 63 => ⟨S16x8x1x1, .f32⟩
  | 64 => ⟨S16x8x64x128, .f32⟩
  | 65 => ⟨S16x8x64x128, .f32⟩
  | 66 => ⟨S16x8x1x1, .f32⟩
  | 67 => ⟨S16x8x64x128, .f32⟩
  | 68 => ⟨S16x8x64x128, .f32⟩
  | 69 => ⟨S16x8x64x128, .f32⟩
  | 70 => ⟨S16x8x1, .f32⟩
  | 71 => ⟨S16x8x64, .f32⟩
  | 72 => ⟨S16x8x64, .f32⟩
  | 73 => ⟨S16x8x1, .f32⟩
  | 74 => ⟨S16x8x64, .f32⟩
  | 75 => ⟨S16x8x64, .f32⟩
  | 76 => ⟨S16x8x64, .f32⟩
  | 77 => ⟨S63x16x8x64x128, .f32⟩
  | 78 => ⟨S1x16x8x64x128, .f32⟩
  | 79 => ⟨S64x16x8x64x128, .f32⟩
  | 80 => ⟨S_, .i32⟩
  | 81 => ⟨S_, .i32⟩
  | 82 => ⟨S16x8x64x64x128, .f32⟩
  | 83 => ⟨S16x8x4096x128, .f32⟩
  | 84 => ⟨S8x8x4096x128, .f32⟩
  | 85 => ⟨S8x4096x8x128, .f32⟩
  | 86 => ⟨S8x4096x1024, .f32⟩
  | 87 => ⟨S8x8x4096x128, .f32⟩
  | 88 => ⟨S8x8x4096x128, .f32⟩
  | 89 => ⟨S8x4096x8x128, .f32⟩
  | 90 => ⟨S8x4096x1024, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_1 : Ref sig .tc := ⟨.hbm, 54, rfl⟩
abbrev main_v48 : Ref sig .tc := ⟨.hbm, 55, rfl⟩
abbrev main_cst_2 : Ref sig .tc := ⟨.hbm, 56, rfl⟩
abbrev main_v49 : Ref sig .tc := ⟨.hbm, 57, rfl⟩
abbrev main_cst_3 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c : Ref sig .tc := ⟨.hbm, 67, rfl⟩
abbrev main_v57_0 : Ref sig .tc := ⟨.hbm, 68, rfl⟩
abbrev main_v57_1 : Ref sig .tc := ⟨.hbm, 69, rfl⟩
abbrev main_v57_2 : Ref sig .tc := ⟨.hbm, 70, rfl⟩
abbrev main_v57_3 : Ref sig .tc := ⟨.hbm, 71, rfl⟩
abbrev main_v57_4 : Ref sig .tc := ⟨.hbm, 72, rfl⟩
abbrev main_v57_5 : Ref sig .tc := ⟨.hbm, 73, rfl⟩
abbrev main_v57_6 : Ref sig .tc := ⟨.hbm, 74, rfl⟩
abbrev main_v57_7 : Ref sig .tc := ⟨.hbm, 75, rfl⟩
abbrev main_v57_8 : Ref sig .tc := ⟨.hbm, 76, rfl⟩
abbrev main_v57_9 : Ref sig .tc := ⟨.hbm, 77, rfl⟩
abbrev main_while0c_c_14 : Ref sig .tc := ⟨.hbm, 78, rfl⟩
abbrev main_while0c_v67 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_c_2 : Ref sig .tc := ⟨.hbm, 83, rfl⟩
abbrev main_while0b_call5_v0 : Ref sig .tc := ⟨.hbm, 84, rfl⟩
abbrev main_while0b_v67 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_c_2 : Ref sig .tc := ⟨.hbm, 89, rfl⟩
abbrev main_while0b_call6_v0 : Ref sig .tc := ⟨.hbm, 90, rfl⟩
abbrev main_while0b_v68 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_c_2 : Ref sig .tc := ⟨.hbm, 95, rfl⟩
abbrev main_while0b_call7_v0 : Ref sig .tc := ⟨.hbm, 96, rfl⟩
abbrev main_while0b_v69 : Ref sig .tc := ⟨.hbm, 97, rfl⟩
abbrev main_while0b_call8_c : Ref sig .tc := ⟨.hbm, 98, rfl⟩
abbrev main_while0b_call8_c_0 : Ref sig .tc := ⟨.hbm, 99, rfl⟩
abbrev main_while0b_call8_c_1 : Ref sig .tc := ⟨.hbm, 100, rfl⟩
abbrev main_while0b_call8_v0 : Ref sig .tc := ⟨.hbm, 101, rfl⟩
abbrev main_while0b_v70 : Ref sig .tc := ⟨.hbm, 102, rfl⟩
abbrev main_while0b_call9_c : Ref sig .tc := ⟨.hbm, 103, rfl⟩
abbrev main_while0b_call9_c_0 : Ref sig .tc := ⟨.hbm, 104, rfl⟩
abbrev main_while0b_call9_c_1 : Ref sig .tc := ⟨.hbm, 105, rfl⟩
abbrev main_while0b_call9_v0 : Ref sig .tc := ⟨.hbm, 106, rfl⟩
abbrev main_while0b_v71 : Ref sig .tc := ⟨.hbm, 107, rfl⟩
abbrev main_while0b_call10_call0_cst : Ref sig .tc := ⟨.hbm, 108, rfl⟩
abbrev main_while0b_call10_call0_v0 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_c_14 : Ref sig .tc := ⟨.hbm, 121, rfl⟩
abbrev main_while0b_v83 : Ref sig .tc := ⟨.hbm, 122, rfl⟩
abbrev main_while0b_call11_v0 : Ref sig .tc := ⟨.hbm, 123, rfl⟩
abbrev main_while0b_call11_c : Ref sig .tc := ⟨.hbm, 124, rfl⟩
abbrev main_while0b_call11_v1 : Ref sig .tc := ⟨.hbm, 125, rfl⟩
abbrev main_while0b_call11_v2 : Ref sig .tc := ⟨.hbm, 126, rfl⟩
abbrev main_while0b_call11_v3 : Ref sig .tc := ⟨.hbm, 127, rfl⟩
abbrev main_while0b_call11_v4 : Ref sig .tc := ⟨.hbm, 128, rfl⟩
abbrev main_while0b_call11_c_0 : Ref sig .tc := ⟨.hbm, 129, rfl⟩
abbrev main_while0b_call11_v5 : Ref sig .tc := ⟨.hbm, 130, rfl⟩
abbrev main_while0b_v84 : Ref sig .tc := ⟨.hbm, 131, rfl⟩
abbrev main_while0b_cst_15 : Ref sig .tc := ⟨.hbm, 132, rfl⟩
abbrev main_while0b_call12_v0 : Ref sig .tc := ⟨.hbm, 133, rfl⟩
abbrev main_while0b_call12_v1 : Ref sig .tc := ⟨.hbm, 134, rfl⟩
abbrev main_while0b_call12_v2 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_cst_16 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_v97 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_cst_17 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_cst_18 : Ref sig .tc := ⟨.hbm, 173, rfl⟩
abbrev main_while0b_v120 : Ref sig .tc := ⟨.hbm, 174, rfl⟩
abbrev main_while0b_v121 : Ref sig .tc := ⟨.hbm, 175, rfl⟩
abbrev main_while0b_v122 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_c_19 : Ref sig .tc := ⟨.hbm, 208, rfl⟩
abbrev main_while0b_v154 : Ref sig .tc := ⟨.hbm, 209, rfl⟩
abbrev main_v58 : Ref sig .tc := ⟨.hbm, 210, rfl⟩
abbrev main_v59 : Ref sig .tc := ⟨.hbm, 211, rfl⟩
abbrev main_v60 : Ref sig .tc := ⟨.hbm, 212, rfl⟩
abbrev main_v61 : Ref sig .tc := ⟨.hbm, 213, rfl⟩
abbrev main_v62 : Ref sig .tc := ⟨.hbm, 214, rfl⟩
abbrev main_v63 : Ref sig .tc := ⟨.hbm, 215, rfl⟩
abbrev main_v64 : Ref sig .tc := ⟨.hbm, 216, rfl⟩
abbrev main_v65 : Ref sig .tc := ⟨.hbm, 217, rfl⟩
abbrev main_v66 : Ref sig .tc := ⟨.hbm, 218, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S32768x1024 : Shape := ⟨2, ![32768, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S32768x1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S4x1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S32768x1024 : Shape := ⟨2, ![32768, 1024]⟩
abbrev S4x1x1024 : Shape := ⟨3, ![4, 1, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S512x2816 : Shape := ⟨2, ![512, 2816]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 23
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S2x1024, .f32⟩
  | .hbm, ⟨5, _⟩ => ⟨S2x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S2x1024x1024, .bf16⟩
  | .hbm, ⟨15, _⟩ => ⟨S32768x1024, .f32⟩
  | .hbm, ⟨16, _⟩ => ⟨S4x1024x2816, .bf16⟩
  | .hbm, ⟨17, _⟩ => ⟨S4x1024x2816, .bf16⟩
  | .hbm, ⟨18, _⟩ => ⟨S4x2816x1024, .bf16⟩
  | .hbm, ⟨19, _⟩ => ⟨S4x1x1024, .f32⟩
  | .hbm, ⟨20, _⟩ => ⟨S2x1x1024, .f32⟩
  | .hbm, ⟨21, _⟩ => ⟨S1x1024, .f32⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x4096x1024 : Shape := ⟨3, ![8, 4096, 1024]⟩
abbrev S2x1024 : Shape := ⟨2, ![2, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S8x4096x8x128 : Shape := ⟨4, ![8, 4096, 8, 128]⟩
abbrev S8x8x4096x128 : Shape := ⟨4, ![8, 8, 4096, 128]⟩
abbrev S_ : Shape := ⟨0, ![]⟩
abbrev S8x8x4096 : Shape := ⟨3, ![8, 8, 4096]⟩
abbrev S8x8x4096x1 : Shape := ⟨4, ![8, 8, 4096, 1]⟩
abbrev S1x1x1024 : Shape := ⟨3, ![1, 1, 1024]⟩
abbrev S8x4096 : Shape := ⟨2, ![8, 4096]⟩
abbrev S8x4096x1 : Shape := ⟨3, ![8, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S2x1024, .f32⟩
  | .hbm, ⟨5, _⟩ => ⟨S2x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024x1024, .f32⟩
  | .hbm, ⟨14, _⟩ => ⟨S1024x1024, .f32⟩
  | .hbm, ⟨15, _⟩ => ⟨S8x4096x8x128, .f32⟩
  | .hbm, ⟨16, _⟩ => ⟨S8x8x4096x128, .f32⟩
  | .hbm, ⟨17, _⟩ => ⟨S8x4096x8x128, .f32⟩
  | .hbm, ⟨18, _⟩ => ⟨S8x8x4096x128, .f32⟩
  | .hbm, ⟨19, _⟩ => ⟨S8x8x4096x128, .f32⟩
  | .hbm, ⟨20, _⟩ => ⟨S8x8x4096x128, .f32⟩
  | .hbm, ⟨21, _⟩ => ⟨S_, .f32⟩
  | .hbm, ⟨22, _⟩ => ⟨S8x8x4096, .f32⟩
  | .hbm, ⟨23, _⟩ => ⟨S8x8x4096x1, .f32⟩
  | .hbm, ⟨24, _⟩ => ⟨S_, .f32⟩
  | .hbm, ⟨25, _⟩ => ⟨S8x8x4096x1, .f32⟩
  | .hbm, ⟨26, _⟩ => ⟨S8x8x4096x1, .f32⟩
  | .hbm, ⟨27, _⟩ => ⟨S_, .f32⟩
  | .hbm, ⟨28, _⟩ => ⟨S8x8x4096x1, .f32⟩
  | .hbm, ⟨29, _⟩ => ⟨S8x8x4096x1, .f32⟩
  | .hbm, ⟨30, _⟩ => ⟨S8x8x4096x1, .f32⟩
  | .hbm, ⟨31, _⟩ => ⟨S8x8x4096x128, .f32⟩
  | .hbm, ⟨32, _⟩ => ⟨S8x8x4096x128, .f32⟩
  | .hbm, ⟨33, _⟩ => ⟨S8x4096x8x128, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S1x1024, .f32⟩
  | .hbm, ⟨50, _⟩ => ⟨S1024, .f32⟩
  | .hbm, ⟨51, _⟩ => ⟨S8x4096x1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S1x1024x2816, .f32⟩
  | .hbm, ⟨68, _⟩ => ⟨S1024x2816, .f32⟩
  | .hbm, ⟨69, _⟩ => ⟨S1x1024x2816, .f32⟩
  | .hbm, ⟨70, _⟩ => ⟨S1024x2816, .f32⟩
  | .hbm, ⟨71, _⟩ => ⟨S1x2816x1024, .f32⟩
  | .hbm, ⟨72, _⟩ => ⟨S2816x1024, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x1024, .f32⟩
  | .hbm, ⟨86, _⟩ => ⟨S_, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x1, .f32⟩
  | .hbm, ⟨101, _⟩ => ⟨S8x4096x1024, .f32⟩
  | .hbm, ⟨102, _⟩ => ⟨S8x4096x1024, .f32⟩
  | .hbm, ⟨103, _⟩ => ⟨S1x1x1024, .f32⟩
  | .hbm, ⟨104, _⟩ => ⟨S8x4096x1024, .f32⟩
  | .hbm, ⟨105, _⟩ => ⟨S8x4096x1024, .f32⟩
  | .hbm, ⟨106, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Proof.Scan.KDefs.lean ====
/- The kernel's chunk of the scan, as one function of the chunk's blocks and of the state before it: what every chunk
   and every head of the unrolled body computes. -/
module

public import proofs.«01_k».proof.Proof.Gen.KernelIdeal
public import Idealize.ShloMosaic.PureOps.Ideal

@[expose] public section

noncomputable section

namespace MlstmScan.Kernel

open Idealize.ShloMosaic Cert.KernelIdeal Cert.KernelIdeal.Gen

/-- The blocks of one chunk: queries, keys, values, and the gates' features by rows and by columns. -/
structure Blocks where
  q : Vec Ideal S1x256x512 .bf16
  k : Vec Ideal S1x256x512 .bf16
  v : Vec Ideal S1x256x1024 .bf16
  rows : Vec Ideal S1x1x24x256 .f32
  cols : Vec Ideal S1x256x32 .f32

theorem slices_pair (p : Fin 4) : S256x512.Slices ![0, 128 * p.val] S256x128 := by revert p; decide
theorem slices_half (b : Fin 2) : S512x256.Slices ![256 * b.val, 0] S256x256 := by revert b; decide
theorem slices_head (h : Fin 8) : S256x1024.Slices ![0, 128 * h.val] S256x128 := by revert h; decide
theorem slices_row (h : Fin 8) : S8x256.Slices ![h.val, 0] S1x256 := by revert h; decide
theorem slices_lane (h : Fin 8) : S8x256.Slices ![h.val, 0] S1x128 := by revert h; decide
theorem slices_col (c : Fin 24) : S256x32.Slices ![0, c.val] S256x1 := by revert c; decide

/-- The head of a pair's half. -/
def headOf (p : Fin 4) (b : Fin 2) : Fin 8 := ⟨2 * p + b, by omega⟩

/-- The masks over the chunk: a forward chunk's query sees the keys up to it, a backward one's from it. -/
def seenUp : IVec S256x256 1 :=
  cmpi .sle (iota .tc S256x256 32 [1] iota_S256x256_d1_w32) (iota .tc S256x256 32 [0] iota_S256x256_d0_w32)
def seenDown : IVec S256x256 1 :=
  cmpi .sge (iota .tc S256x256 32 [1] iota_S256x256_d1_w32) (iota .tc S256x256 32 [0] iota_S256x256_d0_w32)

/-- The lanes of the pair's first head. -/
def low : IVec S256x128 1 := cmpi .slt (iota .tc S256x128 32 [1] iota_S256x128_d1_w32) (broadcast S256x128 64#32)

def zeroB : FVec Ideal S256x128 .bf16 := broadcast S256x128 (Scalar.ofBits .bf16 0x0000#16)
def zeroF : FVec Ideal S256x128 .f32 := broadcast S256x128 (Scalar.ofBits .f32 0x00000000#32)
def ones : FVec Ideal S256x128 .bf16 := broadcast S256x128 (Scalar.ofBits .bf16 0x3F80#16)

variable (x : Blocks) (seen : IVec S256x256 1) (m : Vec Ideal S8x256 .f32)

def rows8 : FVec Ideal S24x256 .f32 := shapeCast S24x256 x.rows shapeCasts_S1x1x24x256_S24x256
def scoreRow : FVec Ideal S8x256 .f32 := extractStridedSlice S8x256 ![0, 0] (rows8 x) slices_S24x256_o0_0_S8x256
def totalRow : FVec Ideal S8x256 .f32 := extractStridedSlice S8x256 ![8, 0] (rows8 x) slices_S24x256_o8_0_S8x256
def localRow : FVec Ideal S8x256 .f32 := extractStridedSlice S8x256 ![16, 0] (rows8 x) slices_S24x256_o16_0_S8x256
def colsOf : FVec Ideal S256x32 .f32 := shapeCast S256x32 x.cols shapeCasts_S1x256x32_S256x32

/-- The stabiliser after the chunk, before its cast to its own shape and after it. -/
def peakNew : FVec Ideal S8x256 .f32 := maximumf (addf (totalRow x) m) (localRow x)
def peakNext : FVec Ideal S8x256 .f32 := shapeCast S8x256 (peakNew x m) shapeCasts_S8x256_S8x256
def keepScale : FVec Ideal S8x256 .f32 := exp2 (subf (addf (totalRow x) m) (peakNew x m))
def freshScale : FVec Ideal S8x256 .f32 := exp2 (subf (localRow x) (peakNew x m))

/-- A pair's queries and keys, the queries masked to one head, and both heads' products. -/
def qPair (p : Fin 4) : FVec Ideal S256x128 .bf16 :=
  extractStridedSlice S256x128 ![0, 128 * p.val] (shapeCast S256x512 x.q shapeCasts_S1x256x512_S256x512) (slices_pair p)
def kPair (p : Fin 4) : FVec Ideal S256x128 .bf16 :=
  extractStridedSlice S256x128 ![0, 128 * p.val] (shapeCast S256x512 x.k shapeCasts_S1x256x512_S256x512) (slices_pair p)
def qHead (p : Fin 4) (b : Fin 2) : FVec Ideal S256x128 .bf16 :=
  ![select low (qPair x p) zeroB, select low zeroB (qPair x p)] b
def bothScores (p : Fin 4) : FVec Ideal S512x256 .f32 :=
  matmul dot_S512x128_S256x128_S512x256_1_1_0_0_n_n none
    (concatenate S512x128 0 [⟨S256x128, qHead x p 0⟩, ⟨S256x128, qHead x p 1⟩] concatenates_S256x128_S256x128_S512x128_d0)
    (kPair x p) (constant S512x256 .f32 0x00000000#32)
def scores (p : Fin 4) (b : Fin 2) : FVec Ideal S256x256 .f32 :=
  extractStridedSlice S256x256 ![256 * b.val, 0] (bothScores x p) (slices_half b)

def vHead (h : Fin 8) : FVec Ideal S256x128 .bf16 :=
  extractStridedSlice S256x128 ![0, 128 * h.val] (shapeCast S256x1024 x.v shapeCasts_S1x256x1024_S256x1024) (slices_head h)
def vOnes (h : Fin 8) : FVec Ideal S256x256 .bf16 :=
  concatenate S256x256 1 [⟨S256x128, vHead x h⟩, ⟨S256x128, ones⟩] concatenates_S256x128_S256x128_S256x256_d1

/-- A column of the features, over the lanes. -/
def colOver (c : Fin 24) : FVec Ideal S256x128 .f32 :=
  broadcastTo S256x128 (shapeCast S256x1 (extractStridedSlice S256x1 ![0, c.val] (colsOf x) (slices_col c)) shapeCasts_S256x1_S256x1)
    broadcasts_S256x1_S256x128
def before (h : Fin 8) : FVec Ideal S1x128 .f32 := extractStridedSlice S1x128 ![h.val, 0] m (slices_lane h)
/-- Minus a row's stabiliser. -/
def negPeak (h : Fin 8) : FVec Ideal S256x128 .f32 :=
  minimumf (colOver x ⟨h, by omega⟩)
    (broadcastTo S256x128 (subf (broadcast S1x128 (Scalar.ofBits .f32 0x00000000#32)) (before m h)) broadcasts_S1x128_S256x128)
def exponent (h : Fin 8) : FVec Ideal S256x256 .f32 :=
  select seen
    (addf (concatenate S256x256 1 [⟨S256x128, negPeak x m h⟩, ⟨S256x128, negPeak x m h⟩] concatenates_S256x128_S256x128_S256x256_d1)
      (broadcastTo S256x256 (extractStridedSlice S1x256 ![h.val, 0] (scoreRow x) (slices_row h)) broadcasts_S1x256_S256x256))
    (broadcast S256x256 (Scalar.ofBits .f32 0xFF800000#32))
def weighted (p : Fin 4) (b : Fin 2) : FVec Ideal S256x256 .f32 :=
  mulf (scores x p b) (exp2 (exponent x seen m (headOf p b)))
def qScaled (p : Fin 4) (b : Fin 2) : FVec Ideal S256x128 .f32 :=
  mulf (extf .f32 (qHead x p b) bitsLt_bf16_f32)
    (exp2 (addf (negPeak x m (headOf p b)) (broadcastTo S256x128 (before m (headOf p b)) broadcasts_S1x128_S256x128)))
def numDen (p : Fin 4) (b : Fin 2) (C : Vec Ideal S1x128x256 .f32) : FVec Ideal S256x256 .f32 :=
  matmul dot_S256x384_S384x256_S256x256_1_0_0_1_n_n none
    (concatenate S256x384 1 [⟨S256x256, truncf .bf16 (weighted x seen m p b) bitsLt_bf16_f32⟩,
      ⟨S256x128, truncf .bf16 (qScaled x m p b) bitsLt_bf16_f32⟩] concatenates_S256x256_S256x128_S256x384_d1)
    (concatenate S384x256 0 [⟨S256x256, vOnes x (headOf p b)⟩,
      ⟨S128x256, truncf .bf16 (shapeCast S128x256 C shapeCasts_S1x128x256_S128x256) bitsLt_bf16_f32⟩]
      concatenates_S256x256_S128x256_S384x256_d0)
    (constant S256x256 .f32 0x00000000#32)
def floorOf (h : Fin 8) : FVec Ideal S256x128 .f32 := exp2 (addf (colOver x ⟨8 + h, by omega⟩) (negPeak x m h))
def headOut (p : Fin 4) (b : Fin 2) (C : Vec Ideal S1x128x256 .f32) : FVec Ideal S1x256x128 .f32 :=
  shapeCast S1x256x128
    (divf (extractStridedSlice S256x128 ![0, 0] (numDen x seen m p b C) slices_S256x256_o0_0_S256x128)
      (maximumf (absf (extractStridedSlice S256x128 ![0, 128] (numDen x seen m p b C) slices_S256x256_o0_128_S256x128))
        (floorOf x m (headOf p b))))
    shapeCasts_S256x128_S1x256x128

/-- The keys of a pair's heads, weighted for the state. -/
def keyWeights (p : Fin 4) : FVec Ideal S512x128 .f32 :=
  concatenate S512x128 0
    [⟨S256x128, mulf (extf .f32 (kPair x p) bitsLt_bf16_f32) (select low (colOver x ⟨16 + 2 * p, by omega⟩) zeroF)⟩,
     ⟨S256x128, mulf (extf .f32 (kPair x p) bitsLt_bf16_f32) (select low zeroF (colOver x ⟨17 + 2 * p, by omega⟩))⟩]
    concatenates_S256x128_S256x128_S512x128_d0
def fresh (p : Fin 4) : FVec Ideal S128x256 .f32 :=
  matmul dot_S512x128_S512x256_S128x256_0_0_1_1_n_n none (truncf .bf16 (keyWeights x p) bitsLt_bf16_f32)
    (concatenate S512x256 0 [⟨S256x256, vOnes x (headOf p 0)⟩, ⟨S256x256, vOnes x (headOf p 1)⟩]
      concatenates_S256x256_S256x256_S512x256_d0)
    (constant S128x256 .f32 0x00000000#32)
/-- A scale of each head over the pair's rows of state. -/
def halfRow (f : FVec Ideal S8x256 .f32) (h : Fin 8) : FVec Ideal S64x128 .f32 :=
  broadcastTo S64x128 (shapeCast S1x128 (extractStridedSlice S1x128 ![h.val, 0] f (slices_lane h)) shapeCasts_S1x128_S1x128)
    broadcasts_S1x128_S64x128
def perRow (f : FVec Ideal S8x256 .f32) (p : Fin 4) : FVec Ideal S128x256 .f32 :=
  let half := concatenate S128x128 0 [⟨S64x128, halfRow f (headOf p 0)⟩, ⟨S64x128, halfRow f (headOf p 1)⟩]
    concatenates_S64x128_S64x128_S128x128_d0
  concatenate S128x256 1 [⟨S128x128, half⟩, ⟨S128x128, half⟩] concatenates_S128x128_S128x128_S128x256_d1
def stateNext (p : Fin 4) (C : Vec Ideal S1x128x256 .f32) : FVec Ideal S1x128x256 .f32 :=
  shapeCast S1x128x256
    (addf (mulf (perRow (keepScale x m) p) (shapeCast S128x256 C shapeCasts_S1x128x256_S128x256))
      (mulf (perRow (freshScale x m) p) (fresh x p)))
    shapeCasts_S128x256_S1x128x256

end MlstmScan.Kernel
-- ==== Proof.Scan.KPoint.lean ====
/- One grid point of the kernel: what its two chunks leave in the outputs and in the carried state, over the blocks it
   is given and the state before it. -/
module

public import proofs.«01_k».proof.Proof.Scan.KDefs
public import proofs.«01_k».proof.Proof.Gen.KernelIdeal.Value
public import Idealize.ShloMosaic.Lib.Pipeline.ValueKit
public import Idealize.ShloMosaic.Lib.Pipeline.ReadBack
import Idealize.ShloMosaic.Lib.Pointwise
import Idealize.ShloMosaic.Lib.ViewIndex

@[expose] public section

set_option maxRecDepth 16384

noncomputable section

namespace MlstmScan.Kernel

open Idealize.ShloMosaic Idealize.ShloMosaic.TcCoe Idealize.SL.Sem Cert.KernelIdeal Cert.KernelIdeal.Gen

/-- The blocks of a grid point's first and second half. -/
def lower (q k : Vec Ideal S1x512x512 .bf16) (v : Vec Ideal S1x512x1024 .bf16) (rows : Vec Ideal S1x2x24x256 .f32)
    (cols : Vec Ideal S1x512x32 .f32) : Blocks where
  q := View.ld q (Rect.unit ![0, 0, 0] ![1, 256, 512] inb_S1x512x512_S1x256x512_0_0_0)
  k := View.ld k (Rect.unit ![0, 0, 0] ![1, 256, 512] inb_S1x512x512_S1x256x512_0_0_0)
  v := View.ld v (Rect.unit ![0, 0, 0] ![1, 256, 1024] inb_S1x512x1024_S1x256x1024_0_0_0)
  rows := View.ld rows (Rect.unit ![0, 0, 0, 0] ![1, 1, 24, 256] inb_S1x2x24x256_S1x1x24x256_0_0_0_0)
  cols := View.ld cols (Rect.unit ![0, 0, 0] ![1, 256, 32] inb_S1x512x32_S1x256x32_0_0_0)
def upper (q k : Vec Ideal S1x512x512 .bf16) (v : Vec Ideal S1x512x1024 .bf16) (rows : Vec Ideal S1x2x24x256 .f32)
    (cols : Vec Ideal S1x512x32 .f32) : Blocks where
  q := View.ld q (Rect.unit ![0, 256, 0] ![1, 256, 512] inb_S1x512x512_S1x256x512_0_256_0)
  k := View.ld k (Rect.unit ![0, 256, 0] ![1, 256, 512] inb_S1x512x512_S1x256x512_0_256_0)
  v := View.ld v (Rect.unit ![0, 256, 0] ![1, 256, 1024] inb_S1x512x1024_S1x256x1024_0_256_0)
  rows := View.ld rows (Rect.unit ![0, 1, 0, 0] ![1, 1, 24, 256] inb_S1x2x24x256_S1x1x24x256_0_1_0_0)
  cols := View.ld cols (Rect.unit ![0, 256, 0] ![1, 256, 32] inb_S1x512x32_S1x256x32_0_256_0)

theorem pairOf_inb (p : Fin 4) : ∀ a, ![p.val, 0, 0] a + ![1, 128, 256] a ≤ S4x128x256.size a := by
  revert p; decide

/-- The rows of state of one pair. -/
def pairOf (C : Vec Ideal S4x128x256 .f32) (p : Fin 4) : Vec Ideal S1x128x256 .f32 :=
  View.ld C (Rect.unit ![p.val, 0, 0] ![1, 128, 256] (pairOf_inb p))

/-- The array of a grid point's outputs, from each half's, pair's and head's. -/
def outBlock (G : Fin 2 → Fin 4 → Fin 2 → Vec Ideal S1x256x128 .f32) : Vec Ideal S1x512x1024 .f32 := fun y =>
  G ⟨(y 1).val / 256, Nat.div_lt_of_lt_mul (y 1).isLt⟩ ⟨(y 2).val / 256, Nat.div_lt_of_lt_mul (y 2).isLt⟩
    ⟨(y 2).val / 128 % 2, Nat.mod_lt _ (by decide)⟩
    (ix3 0 ⟨(y 1).val % 256, Nat.mod_lt _ (by decide)⟩ ⟨(y 2).val % 128, Nat.mod_lt _ (by decide)⟩)

/-- The array of the state, from each pair's. -/
def stateBlock (G : Fin 4 → Vec Ideal S1x128x256 .f32) : Vec Ideal S4x128x256 .f32 := fun y => G (y 0) (ix3 0 (y 1) (y 2))

theorem outBlock_tile (G : Fin 2 → Fin 4 → Fin 2 → Vec Ideal S1x256x128 .f32) (y : S1x512x1024.Idx) (x : S1x256x128.Idx)
    {r l : ℕ} (h1 : (y 1).val = r + (x 1).val) (h2 : (y 2).val = l + (x 2).val) (hr : r % 256 = 0) (hl : l % 128 = 0)
    (br : r / 256 < 2) (bl : l / 256 < 4) :
    outBlock G y = G ⟨r / 256, br⟩ ⟨l / 256, bl⟩ ⟨l / 128 % 2, Nat.mod_lt _ (by decide)⟩ x := by
  have x1 : (x 1).val < 256 := (x 1).isLt
  have x2 : (x 2).val < 128 := (x 2).isLt
  have e1 : (y 1).val / 256 = r / 256 := by omega
  have e2 : (y 2).val / 256 = l / 256 := by omega
  have e3 : (y 2).val / 128 % 2 = l / 128 % 2 := by omega
  have e4 : (y 1).val % 256 = (x 1).val := by omega
  have e5 : (y 2).val % 128 = (x 2).val := by omega
  unfold outBlock
  simp only [e1, e2, e3, e4, e5]
  congr 1
  exact Shape.idx3_ext (by show 0 = (x 0).val; have : (x 0).val < 1 := (x 0).isLt; omega) rfl rfl

theorem stateBlock_tile (G : Fin 4 → Vec Ideal S1x128x256 .f32) (y : S4x128x256.Idx) (x : S1x128x256.Idx) {p : ℕ}
    (h0 : (y 0).val = p + (x 0).val) (h1 : (y 1).val = (x 1).val) (h2 : (y 2).val = (x 2).val) (hp : p < 4) :
    stateBlock G y = G ⟨p, hp⟩ x := by
  have x0 : (x 0).val < 1 := (x 0).isLt
  have e0 : y 0 = (⟨p, hp⟩ : Fin 4) := Fin.ext (by show (y 0).val = p; omega)
  have e1 : y 1 = x 1 := Fin.ext h1
  have e2 : y 2 = x 2 := Fin.ext h2
  unfold stateBlock
  rw [e0, e1, e2]
  congr 1
  exact Shape.idx3_ext (by show 0 = (x 0).val; omega) rfl rfl

variable (m : (ℓ : Loc nD τ sig) → Buf (Elt Ideal) ℓ) (c : Dev nD) (t : Fin cfg0.N)

/-- The forward and the backward blocks of a grid point. -/
def fwLower : Blocks := lower (iblk m c 0 t) (iblk m c 1 t) (iblk m c 2 t) (iblk m c 3 t) (iblk m c 4 t)
def fwUpper : Blocks := upper (iblk m c 0 t) (iblk m c 1 t) (iblk m c 2 t) (iblk m c 3 t) (iblk m c 4 t)
def bwLower : Blocks := lower (iblk m c 5 t) (iblk m c 6 t) (iblk m c 7 t) (iblk m c 8 t) (iblk m c 9 t)
def bwUpper : Blocks := upper (iblk m c 5 t) (iblk m c 6 t) (iblk m c 7 t) (iblk m c 8 t) (iblk m c 9 t)

/-- The carried state. -/
structure Carried where
  C : Vec Ideal S4x128x256 .f32
  m : Vec Ideal S8x256 .f32

/-- The state that a grid point starts from: zero at a row's first point, what the point before left at the others. -/
def startFw : Carried :=
  if t.val % 8 = 0 then ⟨k0_pay3 (F := Ideal), k0_pay5 (F := Ideal)⟩
  else ⟨(outsAt0 m c (t.val - 1) (Nat.lt_of_le_of_lt (Nat.sub_le _ _) t.isLt)).2.2.1,
    (outsAt0 m c (t.val - 1) (Nat.lt_of_le_of_lt (Nat.sub_le _ _) t.isLt)).2.2.2.2.1⟩
def startBw : Carried :=
  if t.val % 8 = 0 then ⟨k0_pay4 (F := Ideal), k0_pay6 (F := Ideal)⟩
  else ⟨(outsAt0 m c (t.val - 1) (Nat.lt_of_le_of_lt (Nat.sub_le _ _) t.isLt)).2.2.2.1,
    (outsAt0 m c (t.val - 1) (Nat.lt_of_le_of_lt (Nat.sub_le _ _) t.isLt)).2.2.2.2.2⟩

/-- Two chunks `A` and `B` in turn from a state: the state between them, and the outputs of each. -/
def between (A : Blocks) (s : Carried) (p : Fin 4) : Vec Ideal S1x128x256 .f32 := stateNext A s.m p (pairOf s.C p)
def firstOut (A : Blocks) (seen : IVec S256x256 1) (s : Carried) (p : Fin 4) (b : Fin 2) : Vec Ideal S1x256x128 .f32 :=
  headOut A seen s.m p b (pairOf s.C p)
def secondOut (A B : Blocks) (seen : IVec S256x256 1) (s : Carried) (p : Fin 4) (b : Fin 2) : Vec Ideal S1x256x128 .f32 :=
  headOut B seen (peakNext A s.m) p b (between A s p)

/-- Later stores that fill a buffer leave nothing of the earlier ones. -/
theorem canon_append_of_cover {S : Shape} {e : EltTy} (L L' : List (View.Piece (Elt Ideal) S e)) (y : S.Idx)
    (h : ∃ p ∈ L, y ∈ p.1.set) : View.canon (L ++ L') y = View.canon L y := by
  induction L with
  | nil => obtain ⟨p, hp, -⟩ := h; exact absurd hp List.not_mem_nil
  | cons p L ih =>
    by_cases hy : y ∈ p.1.set
    · obtain ⟨x, rfl⟩ := p.1.exists_idx_of_mem hy
      exact (View.canon_cons_emb p.1 p.2 _ x).trans (View.canon_cons_emb p.1 p.2 _ x).symm
    · have h' : ∃ q ∈ L, y ∈ q.1.set := by
        obtain ⟨q, hq, hqy⟩ := h
        rcases List.mem_cons.mp hq with rfl | hq
        · exact absurd hqy hy
        · exact ⟨q, hq, hqy⟩
      rw [List.cons_append, View.canon_cons_of_not_mem p _ hy, View.canon_cons_of_not_mem p _ hy, ih h']

set_option maxHeartbeats 4000000 in
/-- What a grid point leaves of its forward pass: the outputs, and the state for the point after. -/
theorem point_fw :
    (outsAt0 m c t.val t.isLt).1 = outBlock ![firstOut (fwLower m c t) seenUp (startFw m c t), secondOut (fwLower m c t) (fwUpper m c t) seenUp (startFw m c t)]
    ∧ (outsAt0 m c t.val t.isLt).2.2.1 = stateBlock (fun p => stateNext (fwUpper m c t) (peakNext (fwLower m c t) (startFw m c t).m) p (between (fwLower m c t) (startFw m c t) p))
    ∧ (outsAt0 m c t.val t.isLt).2.2.2.2.1 = peakNext (fwUpper m c t) (peakNext (fwLower m c t) (startFw m c t).m) := by
  by_cases h0 : t.val % 8 = 0
  on_goal 1 => rw [startFw, if_pos h0, outsAt0_A m c t h0]
  on_goal 2 => rw [startFw, if_neg h0, outsAt0_B m c t h0]
  all_goals refine ⟨funext fun y => ?_, funext fun y => ?_, funext fun y => ?_⟩
  all_goals
    frame_open
    try simp (disch := decide) only [↓ View.readCov_skip, ↓ View.readCov_cons_toLoadRect, ↓ View.readCov_fill]
    frame_out
    try simp only [read_unread_whole]
  on_goal 5 => refine (canon_append_of_cover [_, _, _, _] _ y (View.cover_of_tiled_head _ _ _ (by rfl) y)).trans ?_
  on_goal 2 => refine (canon_append_of_cover [_, _, _, _] _ y (View.cover_of_tiled_head _ _ _ (by rfl) y)).trans ?_
  all_goals
    try canon_tiles x h
  all_goals
    first
    | rw [outBlock_tile _ y x h1 h2 rfl rfl (by decide) (by decide)]
    | rw [outBlock_tile _ y x h1 (h2.trans (Nat.zero_add _).symm) rfl rfl (by decide) (by decide)]
    | rw [outBlock_tile _ y x (h1.trans (Nat.zero_add _).symm) h2 rfl rfl (by decide) (by decide)]
    | rw [outBlock_tile _ y x (h1.trans (Nat.zero_add _).symm) (h2.trans (Nat.zero_add _).symm) rfl rfl (by decide) (by decide)]
    | rw [stateBlock_tile _ y x h0 h1 h2 (by decide)]
    | rw [stateBlock_tile _ y x (h0.trans (Nat.zero_add _).symm) h1 h2 (by decide)]
    | skip
  all_goals
    first
    | refine congrFun ?_ x
    | refine congrFun ?_ y
    simp only [Nat.reduceDiv, Nat.reduceMod, Fin.mk_one, Fin.zero_eta, Fin.reduceFinMk, Matrix.cons_val_zero,
      Matrix.cons_val_one, firstOut, secondOut, between, fwLower, fwUpper, lower, upper, pairOf, Fin.isValue]
    try generalize View.ld (iblk m c 0 t) (Rect.unit ![0, 0, 0] ![1, 256, 512] inb_S1x512x512_S1x256x512_0_0_0) = q0
    try generalize View.ld (iblk m c 0 t) (Rect.unit ![0, 256, 0] ![1, 256, 512] inb_S1x512x512_S1x256x512_0_256_0) = q1
    try generalize View.ld (iblk m c 1 t) (Rect.unit ![0, 0, 0] ![1, 256, 512] inb_S1x512x512_S1x256x512_0_0_0) = k0
    try generalize View.ld (iblk m c 1 t) (Rect.unit ![0, 256, 0] ![1, 256, 512] inb_S1x512x512_S1x256x512_0_256_0) = k1
    try generalize View.ld (iblk m c 2 t) (Rect.unit ![0, 0, 0] ![1, 256, 1024] inb_S1x512x1024_S1x256x1024_0_0_0) = v0
    try generalize View.ld (iblk m c 2 t) (Rect.unit ![0, 256, 0] ![1, 256, 1024] inb_S1x512x1024_S1x256x1024_0_256_0) = v1
    try generalize View.ld (iblk m c 3 t) (Rect.unit ![0, 0, 0, 0] ![1, 1, 24, 256] inb_S1x2x24x256_S1x1x24x256_0_0_0_0) = r0
    try generalize View.ld (iblk m c 3 t) (Rect.unit ![0, 1, 0, 0] ![1, 1, 24, 256] inb_S1x2x24x256_S1x1x24x256_0_1_0_0) = r1
    try generalize View.ld (iblk m c 4 t) (Rect.unit ![0, 0, 0] ![1, 256, 32] inb_S1x512x32_S1x256x32_0_0_0) = c0
    try generalize View.ld (iblk m c 4 t) (Rect.unit ![0, 256, 0] ![1, 256, 32] inb_S1x512x32_S1x256x32_0_256_0) = c1
    try generalize k0_pay3 (F := Ideal) = C0
    try generalize k0_pay5 (F := Ideal) = m0
    try generalize (outsAt0 m c (t.val - 1) _).2.2.1 = C0
    try generalize (outsAt0 m c (t.val - 1) _).2.2.2.2.1 = m0
    exact rfl

set_option maxHeartbeats 4000000 in
/-- What a grid point leaves of its backward pass: the outputs, and the state for the point after. -/
theorem point_bw :
    (outsAt0 m c t.val t.isLt).2.1 = outBlock ![secondOut (bwUpper m c t) (bwLower m c t) seenDown (startBw m c t), firstOut (bwUpper m c t) seenDown (startBw m c t)]
    ∧ (outsAt0 m c t.val t.isLt).2.2.2.1 = stateBlock (fun p => stateNext (bwLower m c t) (peakNext (bwUpper m c t) (startBw m c t).m) p (between (bwUpper m c t) (startBw m c t) p))
    ∧ (outsAt0 m c t.val t.isLt).2.2.2.2.2 = peakNext (bwLower m c t) (peakNext (bwUpper m c t) (startBw m c t).m) := by
  by_cases h0 : t.val % 8 = 0
  on_goal 1 => rw [startBw, if_pos h0, outsAt0_A m c t h0]
  on_goal 2 => rw [startBw, if_neg h0, outsAt0_B m c t h0]
  all_goals refine ⟨funext fun y => ?_, funext fun y => ?_, funext fun y => ?_⟩
  all_goals
    frame_open
    try simp (disch := decide) only [↓ View.readCov_skip, ↓ View.readCov_cons_toLoadRect, ↓ View.readCov_fill]
    frame_out
    try simp only [read_unread_whole]
  on_goal 5 => refine (canon_append_of_cover [_, _, _, _] _ y (View.cover_of_tiled_head _ _ _ (by rfl) y)).trans ?_
  on_goal 2 => refine (canon_append_of_cover [_, _, _, _] _ y (View.cover_of_tiled_head _ _ _ (by rfl) y)).trans ?_
  all_goals
    try canon_tiles x h
  all_goals
    first
    | rw [outBlock_tile _ y x h1 h2 rfl rfl (by decide) (by decide)]
    | rw [outBlock_tile _ y x h1 (h2.trans (Nat.zero_add _).symm) rfl rfl (by decide) (by decide)]
    | rw [outBlock_tile _ y x (h1.trans (Nat.zero_add _).symm) h2 rfl rfl (by decide) (by decide)]
    | rw [outBlock_tile _ y x (h1.trans (Nat.zero_add _).symm) (h2.trans (Nat.zero_add _).symm) rfl rfl (by decide) (by decide)]
    | rw [stateBlock_tile _ y x h0 h1 h2 (by decide)]
    | rw [stateBlock_tile _ y x (h0.trans (Nat.zero_add _).symm) h1 h2 (by decide)]
    | skip
  all_goals
    first
    | refine congrFun ?_ x
    | refine congrFun ?_ y
    simp only [Nat.reduceDiv, Nat.reduceMod, Fin.mk_one, Fin.zero_eta, Fin.reduceFinMk, Matrix.cons_val_zero,
      Matrix.cons_val_one, firstOut, secondOut, between, bwLower, bwUpper, lower, upper, pairOf, Fin.isValue]
    try generalize View.ld (iblk m c 5 t) (Rect.unit ![0, 0, 0] ![1, 256, 512] inb_S1x512x512_S1x256x512_0_0_0) = q0
    try generalize View.ld (iblk m c 5 t) (Rect.unit ![0, 256, 0] ![1, 256, 512] inb_S1x512x512_S1x256x512_0_256_0) = q1
    try generalize View.ld (iblk m c 6 t) (Rect.unit ![0, 0, 0] ![1, 256, 512] inb_S1x512x512_S1x256x512_0_0_0) = k0
    try generalize View.ld (iblk m c 6 t) (Rect.unit ![0, 256, 0] ![1, 256, 512] inb_S1x512x512_S1x256x512_0_256_0) = k1
    try generalize View.ld (iblk m c 7 t) (Rect.unit ![0, 0, 0] ![1, 256, 1024] inb_S1x512x1024_S1x256x1024_0_0_0) = v0
    try generalize View.ld (iblk m c 7 t) (Rect.unit ![0, 256, 0] ![1, 256, 1024] inb_S1x512x1024_S1x256x1024_0_256_0) = v1
    try generalize View.ld (iblk m c 8 t) (Rect.unit ![0, 0, 0, 0] ![1, 1, 24, 256] inb_S1x2x24x256_S1x1x24x256_0_0_0_0) = r0
    try generalize View.ld (iblk m c 8 t) (Rect.unit ![0, 1, 0, 0] ![1, 1, 24, 256] inb_S1x2x24x256_S1x1x24x256_0_1_0_0) = r1
    try generalize View.ld (iblk m c 9 t) (Rect.unit ![0, 0, 0] ![1, 256, 32] inb_S1x512x32_S1x256x32_0_0_0) = c0
    try generalize View.ld (iblk m c 9 t) (Rect.unit ![0, 256, 0] ![1, 256, 32] inb_S1x512x32_S1x256x32_0_256_0) = c1
    try generalize k0_pay4 (F := Ideal) = C0
    try generalize k0_pay6 (F := Ideal) = m0
    try generalize (outsAt0 m c (t.val - 1) _).2.2.2.1 = C0
    try generalize (outsAt0 m c (t.val - 1) _).2.2.2.2.2 = m0
    exact rfl

end MlstmScan.Kernel
-- ==== Proof.Scan.Closed.lean ====
/- The stabilised gated scan over the real numbers, in a form that no chunk length enters, and the laws by which a
   chunk of any length carries it on. -/
module

public import Mathlib.Analysis.SpecialFunctions.Exp
public import Mathlib.Algebra.BigOperators.Fin

@[expose] public section

noncomputable section

namespace MlstmScan

open Finset

variable (L I : ℕ → ℝ)

/-- The sum of the log forget gates of the first `n` tokens. -/
def decay (n : ℕ) : ℝ := ∑ s ∈ range n, L s

/-- The log weight of token `j` in the state, before any stabiliser and before the decay up to the reader. -/
def score (j : ℕ) : ℝ := I j - decay L (j + 1)

/-- The running maximum (from zero) of the scores of the first `n` tokens. The stabiliser is `decay n + peak n`. -/
def peak : ℕ → ℝ
  | 0 => 0
  | n + 1 => max (peak n) (score L I n)

/-- One entry of the stabilised state after `n` tokens: `k` one feature of the keys, `v` one of the values. -/
def state (k v : ℕ → ℝ) (n : ℕ) : ℝ :=
  ∑ j ∈ range n, Real.exp (score L I j - peak L I n) * k j * v j

/-- The weighted sum that token `t` reads: `s` is the product of its query with each key. -/
def readout (s v : ℕ → ℝ) (t : ℕ) : ℝ :=
  ∑ j ∈ range (t + 1), s j * Real.exp (score L I j - peak L I (t + 1)) * v j

/-- The stabilised output of token `t`. -/
def output (s v : ℕ → ℝ) (t : ℕ) : ℝ :=
  readout L I s v t /
    max |readout L I s (fun _ => 1) t| (Real.exp (-(decay L (t + 1) + peak L I (t + 1))))

variable {L I}

theorem decay_add (n m : ℕ) : decay L (n + m) = decay L n + ∑ j : Fin m, L (n + j) := by
  unfold decay
  rw [sum_range_add, Finset.sum_range (fun j => L (n + j))]

/-- The first `i + 1` of `m` terms, as a masked sum over all of them. -/
theorem sum_seen {m : ℕ} (f : ℕ → ℝ) (i : Fin m) :
    (∑ j : Fin m, if j ≤ i then f j else 0) = ∑ j ∈ range (i + 1), f j := by
  rw [← Finset.sum_filter, Finset.sum_range]
  symm
  refine Finset.sum_bij (fun (a : Fin (i + 1)) _ => (⟨a, by omega⟩ : Fin m)) ?_ ?_ ?_ ?_
  · intro a _
    simp only [mem_filter, mem_univ, true_and, Fin.le_def]; omega
  · intro a _ b _ h
    simpa [Fin.ext_iff] using h
  · intro b hb
    simp only [mem_filter, mem_univ, true_and, Fin.le_def] at hb
    exact ⟨⟨b, by omega⟩, mem_univ _, rfl⟩
  · intros; rfl

theorem decay_seen {m : ℕ} (n : ℕ) (i : Fin m) :
    decay L (n + i + 1) = decay L n + ∑ j : Fin m, if j ≤ i then L (n + j) else 0 := by
  rw [sum_seen (fun j => L (n + j)), add_assoc]
  unfold decay
  rw [sum_range_add]

theorem peak_add_le (n m : ℕ) (x : ℝ) :
    peak L I (n + m) ≤ x ↔ peak L I n ≤ x ∧ ∀ j < m, score L I (n + j) ≤ x := by
  induction m with
  | zero => simp
  | succ m ih =>
    rw [← add_assoc, peak, max_le_iff, ih, and_assoc]
    refine and_congr_right fun _ => ⟨fun h j hj => ?_, fun h => ⟨fun j hj => h j (by omega), h m (by omega)⟩⟩
    rcases Nat.lt_succ_iff_lt_or_eq.mp hj with h' | rfl
    · exact h.1 j h'
    · exact h.2

/-- The running maximum after a whole chunk, by the chunk's own maximum `μ`. -/
theorem peak_chunk {n m : ℕ} {μ : ℝ} (hμ : ∀ x, μ ≤ x ↔ ∀ j : Fin m, score L I (n + j) ≤ x) :
    peak L I (n + m) = max (peak L I n) μ :=
  eq_of_forall_ge_iff fun x => by
    rw [peak_add_le, max_le_iff, hμ]
    exact and_congr_right fun _ => ⟨fun h j => h j j.2, fun h j hj => h ⟨j, hj⟩⟩

/-- The running maximum after token `i` of a chunk, by the maximum `μ` over the chunk's tokens up to it. -/
theorem peak_seen {n m : ℕ} {i : Fin m} {μ : ℝ}
    (hμ : ∀ x, μ ≤ x ↔ ∀ j : Fin m, j ≤ i → score L I (n + j) ≤ x) :
    peak L I (n + i + 1) = max (peak L I n) μ :=
  eq_of_forall_ge_iff fun x => by
    rw [add_assoc, peak_add_le, max_le_iff, hμ]
    refine and_congr_right fun _ => ⟨fun h j hj => h j ?_, fun h j hj => h ⟨j, by omega⟩ ?_⟩
    · rw [Fin.le_def] at hj; omega
    · rw [Fin.le_def]; show j ≤ i; omega

/-- Restating the state at another stabiliser. -/
theorem exp_mul_state (k v : ℕ → ℝ) (n : ℕ) (x : ℝ) :
    Real.exp (peak L I n - x) * state L I k v n = ∑ j ∈ range n, Real.exp (score L I j - x) * k j * v j := by
  unfold state
  rw [mul_sum]
  refine sum_congr rfl fun j _ => ?_
  rw [show score L I j - x = (peak L I n - x) + (score L I j - peak L I n) by ring, Real.exp_add]
  ring

/-- The state after a chunk: the state before it decayed, and what the chunk adds at its own stabiliser `μ`. -/
theorem state_chunk (k v : ℕ → ℝ) (n m : ℕ) (μ : ℝ) :
    state L I k v (n + m)
      = Real.exp (peak L I n - peak L I (n + m)) * state L I k v n
        + Real.exp (μ - peak L I (n + m)) * ∑ j : Fin m, Real.exp (score L I (n + j) - μ) * k (n + j) * v (n + j) := by
  rw [exp_mul_state]
  conv_lhs => unfold state
  rw [sum_range_add, Finset.sum_range (fun j => Real.exp (score L I (n + j) - peak L I (n + m)) * k (n + j) * v (n + j))]
  congr 1
  rw [mul_sum]
  refine sum_congr rfl fun j _ => ?_
  rw [show score L I (n + j) - peak L I (n + m)
    = (μ - peak L I (n + m)) + (score L I (n + j) - μ) by ring, Real.exp_add]
  ring

/-- What a token of a chunk reads: the chunk's own tokens up to it, and the state before the chunk. -/
theorem readout_chunk {ι : Type} [Fintype ι] (q : ι → ℝ) (k : ι → ℕ → ℝ) (v : ℕ → ℝ) (n m : ℕ) (i : Fin m) :
    readout L I (fun j => ∑ a, q a * k a j) v (n + i)
      = (∑ j : Fin m, (if j ≤ i then (∑ a, q a * k a (n + j)) * Real.exp (score L I (n + j) - peak L I (n + i + 1))
            else 0) * v (n + j))
        + Real.exp (peak L I n - peak L I (n + i + 1)) * ∑ a, q a * state L I (k a) v n := by
  have h1 : (∑ j : Fin m, (if j ≤ i then (∑ a, q a * k a (n + j)) * Real.exp (score L I (n + j) - peak L I (n + i + 1))
            else 0) * v (n + j))
      = ∑ j ∈ range (i + 1),
          (∑ a, q a * k a (n + j)) * Real.exp (score L I (n + j) - peak L I (n + i + 1)) * v (n + j) := by
    rw [← sum_seen (fun j => (∑ a, q a * k a (n + j)) * Real.exp (score L I (n + j) - peak L I (n + i + 1)) * v (n + j))]
    exact sum_congr rfl fun j _ => by split <;> simp
  have h2 : Real.exp (peak L I n - peak L I (n + i + 1)) * ∑ a, q a * state L I (k a) v n
      = ∑ j ∈ range n, (∑ a, q a * k a j) * Real.exp (score L I j - peak L I (n + i + 1)) * v j := by
    rw [mul_sum]
    have : ∀ a, Real.exp (peak L I n - peak L I (n + i + 1)) * (q a * state L I (k a) v n)
        = ∑ j ∈ range n, q a * (Real.exp (score L I j - peak L I (n + i + 1)) * k a j * v j) := fun a => by
      rw [← mul_sum, ← exp_mul_state]; ring
    rw [sum_congr rfl fun a _ => this a, sum_comm]
    refine sum_congr rfl fun j _ => ?_
    rw [sum_mul, sum_mul]
    exact sum_congr rfl fun a _ => by ring
  rw [h1, h2]
  unfold readout
  rw [add_assoc, sum_range_add, add_comm]

end MlstmScan

end

end
-- ==== Proof.Scan.Seqs.lean ====
/- The sequences that the two scans read: each head's queries, keys, values and gates, in the order of the tokens for
   the scan forward and in the opposite order for the scan backward. -/
module

public import proofs.«01_k».proof.Proof.Scan.Closed
public import Mathlib.Analysis.SpecialFunctions.Log.Basic
public import Mathlib.Logic.Equiv.Fin.Basic

@[expose] public section

noncomputable section

namespace MlstmScan

/-- The logarithm of the sigmoid, as both programs write it. -/
def lsig (x : ℝ) : ℝ := -(max (-x) 0 + Real.log (1 + Real.exp (-|(-x)|)))

/-- The place of a token in the order of the scan: `d` says that the scan goes backward. -/
def place (d : Bool) (τ : Fin 4096) : Fin 4096 := if d then Fin.rev τ else τ

theorem place_place (d : Bool) (τ : Fin 4096) : place d (place d τ) = τ := by
  cases d <;> simp [place]

/-- A sequence over the tokens, in the order of the scan. -/
def along (d : Bool) (f : Fin 4096 → ℝ) (s : ℕ) : ℝ := if h : s < 4096 then f (place d ⟨s, h⟩) else 0

theorem along_lt (d : Bool) (f : Fin 4096 → ℝ) (τ : Fin 4096) (s : ℕ) (h : s = (place d τ).val) : along d f s = f τ := by
  subst h
  rw [along, dif_pos (place d τ).isLt]
  exact congrArg f (place_place d τ)

/-- The arrays that the programs are given, as real numbers. -/
structure Given where
  q : Fin 8 → Fin 4096 → Fin 512 → ℝ
  k : Fin 8 → Fin 4096 → Fin 512 → ℝ
  v : Fin 8 → Fin 4096 → Fin 1024 → ℝ
  g : Fin 8 → Fin 4096 → Fin 32 → ℝ

namespace Given

variable (X : Given) (d : Bool) (B : Fin 8) (h : Fin 8)

/-- The gate of kind `s` (0 the input gate, 1 the forget gate) of head `h`. -/
def gate (s : Fin 2) (τ : Fin 4096) : ℝ := X.g B τ ⟨16 * d.toNat + 8 * s + h, by have := Bool.toNat_le d; omega⟩

def L : ℕ → ℝ := along d fun τ => lsig (X.gate d B h 1 τ)
def I : ℕ → ℝ := along d fun τ => X.gate d B h 0 τ
def qs (a : Fin 64) : ℕ → ℝ := along d fun τ => X.q B τ ⟨64 * h + a, by omega⟩
def ks (a : Fin 64) : ℕ → ℝ := along d fun τ => X.k B τ ⟨64 * h + a, by omega⟩ * (1 / 8)
def vs (e : Fin 128) : ℕ → ℝ := along d fun τ => X.v B τ ⟨128 * h + e, by omega⟩

/-- The output of head `h` at value feature `e`, at place `s` of the scan. -/
def out (e : Fin 128) (s : ℕ) : ℝ :=
  output (X.L d B h) (X.I d B h) (fun m => ∑ a, X.qs d B h a s * X.ks d B h a m) (X.vs d B h e) s

end Given

/-! Chunks of 256 tokens. -/

/-- Token `t` of chunk `c`. -/
def token (c : Fin 16) (t : Fin 256) : Fin 4096 := ⟨256 * c + t, by omega⟩

/-- The order in which the scan reads the tokens of a chunk. -/
def order (d : Bool) : Equiv.Perm (Fin 256) := if d then Fin.revPerm else Equiv.refl _

/-- How many tokens the scan has read before chunk `c`. -/
def readBefore (d : Bool) (c : Fin 16) : ℕ := if d then 256 * (15 - c) else 256 * c

theorem place_token (d : Bool) (c : Fin 16) (t : Fin 256) : (place d (token c t)).val = readBefore d c + order d t := by
  cases d
  · rfl
  · show 4096 - (256 * c.val + t.val + 1) = 256 * (15 - c.val) + (256 - (t.val + 1))
    omega

theorem along_chunk (d : Bool) (f : Fin 4096 → ℝ) (c : Fin 16) (t : Fin 256) : along d f (readBefore d c + order d t) = f (token c t) :=
  along_lt d f _ _ (place_token d c t).symm

end MlstmScan
-- ==== Proof.Scan.KBlk.lean ====
/- The blocks that a grid point reads, at an index of the arrays. -/
module

public import proofs.«01_k».proof.Proof.Scan.KPoint
public import proofs.«01_k».proof.Proof.Scan.Seqs

@[expose] public section

set_option maxRecDepth 16384

noncomputable section

namespace MlstmScan.Kernel

open Idealize.ShloMosaic Cert.KernelIdeal Cert.KernelIdeal.Gen Idealize.ShloMosaic.TcCoe Idealize.SL.Sem

theorem index_fw : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0, 0] ∧ win0_4.index t = ![t.val / 8, t.val % 8, 0]
    ∧ win0_10.index t = ![t.val / 8, t.val % 8, 0] := by decide +kernel

theorem index_bw : ∀ t : Fin cfg0.N, win0_5.index t = ![t.val / 8, 7 - t.val % 8, 0] ∧ win0_6.index t = ![t.val / 8, 7 - t.val % 8, 0]
    ∧ win0_7.index t = ![t.val / 8, 7 - t.val % 8, 0] ∧ win0_8.index t = ![t.val / 8, 7 - t.val % 8, 0, 0] ∧ win0_9.index t = ![t.val / 8, 7 - t.val % 8, 0]
    ∧ win0_11.index t = ![t.val / 8, 7 - t.val % 8, 0] := by decide +kernel

/-- The blocks are those of chunk `cc` of row `B`, cut from the whole arrays. -/
structure Reads (x : Blocks) (q k : Vec Ideal S8x4096x512 .bf16) (v : Vec Ideal S8x4096x1024 .bf16)
    (rows : Vec Ideal S8x16x24x256 .f32) (cols : Vec Ideal S8x4096x32 .f32) (B : Fin 8) (cc : Fin 16) : Prop where
  q : ∀ r u, x.q (ix3 0 r u) = q (ix3 B (token cc r) u)
  k : ∀ r u, x.k (ix3 0 r u) = k (ix3 B (token cc r) u)
  v : ∀ r u, x.v (ix3 0 r u) = v (ix3 B (token cc r) u)
  rows : ∀ u r, x.rows (ix4 0 0 u r) = rows (ix4 B cc u r)
  cols : ∀ r u, x.cols (ix3 0 r u) = cols (ix3 B (token cc r) u)

variable (m : (ℓ : Loc nD τ sig) → Buf (Elt Ideal) ℓ) (c : Dev nD) (t : Fin cfg0.N)

/-- The row of the batch that a grid point works on, and the chunks of the two halves of its blocks. -/
def row : Fin 8 := ⟨t.val / 8, Nat.div_lt_of_lt_mul t.isLt⟩
def fwLo : Fin 16 := ⟨2 * (t.val % 8), by omega⟩
def fwHi : Fin 16 := ⟨2 * (t.val % 8) + 1, by omega⟩
def bwLo : Fin 16 := ⟨2 * (7 - t.val % 8), by omega⟩
def bwHi : Fin 16 := ⟨2 * (7 - t.val % 8) + 1, by omega⟩

set_option maxHeartbeats 2000000 in
theorem fwLower_reads : Reads (fwLower m c t) (V m c main_v106) (V m c main_v109) (V m c main_v110) (V m c main_v40) (V m c main_v52) (row t) (fwLo t) where
  q r u := by
    unfold fwLower lower
    dsimp only
    pointwise
    blk_ext [iblk, index_fw t, token, row, fwLo]
  k r u := by
    unfold fwLower lower
    dsimp only
    pointwise
    blk_ext [iblk, index_fw t, token, row, fwLo]
  v r u := by
    unfold fwLower lower
    dsimp only
    pointwise
    blk_ext [iblk, index_fw t, token, row, fwLo]
  rows u r := by
    unfold fwLower lower
    dsimp only
    pointwise
    blk_ext [iblk, index_fw t, token, row, fwLo]
  cols r u := by
    unfold fwLower lower
    dsimp only
    pointwise
    blk_ext [iblk, index_fw t, token, row, fwLo]

set_option maxHeartbeats 2000000 in
theorem fwUpper_reads : Reads (fwUpper m c t) (V m c main_v106) (V m c main_v109) (V m c main_v110) (V m c main_v40) (V m c main_v52) (row t) (fwHi t) where
  q r u := by
    unfold fwUpper upper
    dsimp only
    pointwise
    blk_ext [iblk, index_fw t, token, row, fwHi]
  k r u := by
    unfold fwUpper upper
    dsimp only
    pointwise
    blk_ext [iblk, index_fw t, token, row, fwHi]
  v r u := by
    unfold fwUpper upper
    dsimp only
    pointwise
    blk_ext [iblk, index_fw t, token, row, fwHi]
  rows u r := by
    unfold fwUpper upper
    dsimp only
    pointwise
    blk_ext [iblk, index_fw t, token, row, fwHi]
  cols r u := by
    unfold fwUpper upper
    dsimp only
    pointwise
    blk_ext [iblk, index_fw t, token, row, fwHi]

set_option maxHeartbeats 2000000 in
theorem bwLower_reads : Reads (bwLower m c t) (V m c main_v106) (V m c main_v109) (V m c main_v110) (V m c main_v93) (V m c main_v105) (row t) (bwLo t) where
  q r u := by
    unfold bwLower lower
    dsimp only
    pointwise
    blk_ext [iblk, index_bw t, token, row, bwLo]
  k r u := by
    unfold bwLower lower
    dsimp only
    pointwise
    blk_ext [iblk, index_bw t, token, row, bwLo]
  v r u := by
    unfold bwLower lower
    dsimp only
    pointwise
    blk_ext [iblk, index_bw t, token, row, bwLo]
  rows u r := by
    unfold bwLower lower
    dsimp only
    pointwise
    blk_ext [iblk, index_bw t, token, row, bwLo]
  cols r u := by
    unfold bwLower lower
    dsimp only
    pointwise
    blk_ext [iblk, index_bw t, token, row, bwLo]

set_option maxHeartbeats 2000000 in
theorem bwUpper_reads : Reads (bwUpper m c t) (V m c main_v106) (V m c main_v109) (V m c main_v110) (V m c main_v93) (V m c main_v105) (row t) (bwHi t) where
  q r u := by
    unfold bwUpper upper
    dsimp only
    pointwise
    blk_ext [iblk, index_bw t, token, row, bwHi]
  k r u := by
    unfold bwUpper upper
    dsimp only
    pointwise
    blk_ext [iblk, index_bw t, token, row, bwHi]
  v r u := by
    unfold bwUpper upper
    dsimp only
    pointwise
    blk_ext [iblk, index_bw t, token, row, bwHi]
  rows u r := by
    unfold bwUpper upper
    dsimp only
    pointwise
    blk_ext [iblk, index_bw t, token, row, bwHi]
  cols r u := by
    unfold bwUpper upper
    dsimp only
    pointwise
    blk_ext [iblk, index_bw t, token, row, bwHi]

end MlstmScan.Kernel
-- ==== Proof.Scan.Extended.lean ====
/- Facts about the extended reals that the two programs' values at an index need: sums and masked maxima of reals, and
   the running sum as the host computes it. -/
module

public import Idealize.ShloMosaic.Lib.Pointwise
public import Mathlib.Data.EReal.Operations

@[expose] public section

noncomputable section

namespace MlstmScan

open Idealize.ShloMosaic Finset

/-- A sum of reals, read in the extended reals. -/
theorem sum_coe {ι : Type} (s : Finset ι) (f : ι → ℝ) : ∑ x ∈ s, (f x : EReal) = ((∑ x ∈ s, f x : ℝ) : EReal) := by
  classical
  induction s using Finset.induction_on with
  | empty => simp
  | insert a s ha ih => rw [sum_insert ha, sum_insert ha, ih, EReal.coe_add]

/-- The maximum, from minus infinity, of the reals that a mask leaves is a real, if the mask leaves any. -/
theorem fold_max_mask {m : ℕ} (p : Fin m → Prop) [DecidablePred p] (f : Fin m → ℝ) (hp : ∃ j, p j) :
    ∃ μ : ℝ, (univ : Finset (Fin m)).fold max (⊥ : EReal) (fun j => if p j then (f j : EReal) else ⊥) = (μ : EReal)
      ∧ ∀ x, μ ≤ x ↔ ∀ j, p j → f j ≤ x := by
  have hne : (univ.filter p).Nonempty := by
    obtain ⟨j, hj⟩ := hp
    exact ⟨j, by simp [hj]⟩
  refine ⟨(univ.filter p).sup' hne f, ?_, fun x => ?_⟩
  · apply le_antisymm
    · rw [fold_max_le]
      refine ⟨bot_le, fun j _ => ?_⟩
      split_ifs with h
      · exact EReal.coe_le_coe_iff.2 (le_sup' f (by simp [h]))
      · exact bot_le
    · obtain ⟨j, hj, he⟩ := exists_mem_eq_sup' hne f
      rw [he, le_fold_max]
      right
      refine ⟨j, mem_univ _, ?_⟩
      rw [if_pos (mem_filter.1 hj).2]
  · rw [sup'_le_iff]
    simp

/-- The maximum, from minus infinity, of reals. -/
theorem fold_max_coe {m : ℕ} (hm : 0 < m) (f : Fin m → ℝ) :
    ∃ μ : ℝ, (univ : Finset (Fin m)).fold max (⊥ : EReal) (fun j => (f j : EReal)) = (μ : EReal)
      ∧ ∀ x, μ ≤ x ↔ ∀ j, f j ≤ x := by
  obtain ⟨μ, h1, h2⟩ := fold_max_mask (fun _ : Fin m => True) f ⟨⟨0, hm⟩, trivial⟩
  exact ⟨μ, by simpa using h1, by simpa using h2⟩

/-- A left fold that adds one term per step is the sum of the terms. -/
theorem foldl_add_eq_sum {n : ℕ} (g : Fin n → EReal) :
    (List.finRange n).foldl (fun r x => r + g x) 0 = ∑ x, g x := by
  rw [← List.sum_ofFn, List.ofFn_eq_map, List.sum_eq_foldl, List.foldl_map]

/-- A running sum along the last of three axes, as the host prints it: a window of the whole axis, padded low by one
    less. Where the entries along the axis are `F`, entry `t` of the result is the sum of `F` up to and including `t`. -/
theorem running_sum {A B N Nm1 : ℕ} (hN : Nm1 + 1 = N) (x : FVec Ideal ⟨3, ![A, B, N]⟩ .f32)
    (init : FVec Ideal ⟨0, ![]⟩ .f32) (hinit : ∀ u, init u = 0)
    (h : (⟨3, ![A, B, N]⟩ : Shape).ReduceWindows (![1, 1, N] : Fin 3 → ℕ) ![1, 1, 1] ![0, 0, Nm1] ![0, 0, 0] ⟨3, ![A, B, N]⟩)
    (hu : 0 < (⟨0, ![]⟩ : Shape).numel) (i : Fin A) (j : Fin B) (t : Fin N) (F : ℕ → EReal)
    (hF : ∀ r : Fin N, x (ix3 i j r) = F r) :
    Host.reduceWindowAdd ![1, 1, N] ![1, 1, 1] ![0, 0, Nm1] ![0, 0, 0] x init h hu (ix3 i j t)
      = ∑ r ∈ range (t + 1), F r := by
  subst hN
  have ht := t.isLt
  have hnum : (⟨3, ![1, 1, Nm1 + 1]⟩ : Shape).numel = Nm1 + 1 := by
    show ∏ a : Fin 3, (![1, 1, Nm1 + 1] : Fin 3 → ℕ) a = Nm1 + 1
    rw [Fin.prod_univ_three]
    show 1 * 1 * (Nm1 + 1) = Nm1 + 1
    omega
  have hsym : ∀ n : Fin (⟨3, ![1, 1, Nm1 + 1]⟩ : Shape).numel,
      (⟨3, ![1, 1, Nm1 + 1]⟩ : Shape).rowMajor.symm n = ix3 (0 : Fin 1) (0 : Fin 1) (n.cast hnum) := fun n =>
    ((⟨3, ![1, 1, Nm1 + 1]⟩ : Shape).rowMajor.symm_apply_eq).2 (Fin.ext (by
      rw [Shape.rowMajor_val_three]
      show n.val = (0 * 1 + 0) * (Nm1 + 1) + n.val
      omega))
  unfold Host.reduceWindowAdd
  rw [Ideal.hostReduceWindowAdd_def]
  unfold Ideal.hostReduceWindowAdd Host.reduceWindow
  simp only [hinit]
  have hstep : ∀ n : Fin (⟨3, ![1, 1, Nm1 + 1]⟩ : Shape).numel, ∀ r : EReal,
      (r + (if hin : ∀ a : Fin 3, (![0, 0, Nm1] : Fin 3 → ℕ) a ≤ (ix3 i j t a).val * (![1, 1, 1] : Fin 3 → ℕ) a
            + ((⟨3, ![1, 1, Nm1 + 1]⟩ : Shape).rowMajor.symm n a).val
          ∧ (ix3 i j t a).val * (![1, 1, 1] : Fin 3 → ℕ) a + ((⟨3, ![1, 1, Nm1 + 1]⟩ : Shape).rowMajor.symm n a).val
            - (![0, 0, Nm1] : Fin 3 → ℕ) a < (⟨3, ![A, B, Nm1 + 1]⟩ : Shape).size a
        then x (fun a => ⟨_, (hin a).2⟩) else 0))
      = r + (if Nm1 ≤ t.val + n.val then F (t + n - Nm1) else 0) := by
    intro n r
    congr 1
    have hn : n.val < Nm1 + 1 := (n.cast hnum).isLt
    have e : ∀ a : Fin 3, ((⟨3, ![1, 1, Nm1 + 1]⟩ : Shape).rowMajor.symm n a).val
        = (ix3 (0 : Fin 1) (0 : Fin 1) (n.cast hnum) a).val := fun a => by rw [hsym]
    have e0 : ((⟨3, ![1, 1, Nm1 + 1]⟩ : Shape).rowMajor.symm n 0).val = 0 := e 0
    have e1 : ((⟨3, ![1, 1, Nm1 + 1]⟩ : Shape).rowMajor.symm n 1).val = 0 := e 1
    have e2 : ((⟨3, ![1, 1, Nm1 + 1]⟩ : Shape).rowMajor.symm n 2).val = n.val := e 2
    split
    · next hin =>
      have h2 := hin 2
      change Nm1 ≤ t.val * 1 + ((⟨3, ![1, 1, Nm1 + 1]⟩ : Shape).rowMajor.symm n 2).val
        ∧ t.val * 1 + ((⟨3, ![1, 1, Nm1 + 1]⟩ : Shape).rowMajor.symm n 2).val - Nm1 < Nm1 + 1 at h2
      rw [e2] at h2
      rw [if_pos (by omega)]
      refine (congrArg x (funext fun a => Fin.ext ?_)).trans (hF ⟨t.val + n.val - Nm1, by omega⟩)
      match a with
      | ⟨0, _⟩ =>
        show i.val * 1 + ((⟨3, ![1, 1, Nm1 + 1]⟩ : Shape).rowMajor.symm n 0).val - 0 = i.val
        rw [e0]; omega
      | ⟨1, _⟩ =>
        show j.val * 1 + ((⟨3, ![1, 1, Nm1 + 1]⟩ : Shape).rowMajor.symm n 1).val - 0 = j.val
        rw [e1]; omega
      | ⟨2, _⟩ =>
        show t.val * 1 + ((⟨3, ![1, 1, Nm1 + 1]⟩ : Shape).rowMajor.symm n 2).val - Nm1 = t.val + n.val - Nm1
        rw [e2]; omega
    · next hin =>
      rw [if_neg fun hle => hin fun a => by
        match a with
        | ⟨0, _⟩ =>
          show 0 ≤ i.val * 1 + ((⟨3, ![1, 1, Nm1 + 1]⟩ : Shape).rowMajor.symm n 0).val
            ∧ i.val * 1 + ((⟨3, ![1, 1, Nm1 + 1]⟩ : Shape).rowMajor.symm n 0).val - 0 < A
          rw [e0]; have := i.isLt; omega
        | ⟨1, _⟩ =>
          show 0 ≤ j.val * 1 + ((⟨3, ![1, 1, Nm1 + 1]⟩ : Shape).rowMajor.symm n 1).val
            ∧ j.val * 1 + ((⟨3, ![1, 1, Nm1 + 1]⟩ : Shape).rowMajor.symm n 1).val - 0 < B
          rw [e1]; have := j.isLt; omega
        | ⟨2, _⟩ =>
          show Nm1 ≤ t.val * 1 + ((⟨3, ![1, 1, Nm1 + 1]⟩ : Shape).rowMajor.symm n 2).val
            ∧ t.val * 1 + ((⟨3, ![1, 1, Nm1 + 1]⟩ : Shape).rowMajor.symm n 2).val - Nm1 < Nm1 + 1
          rw [e2]; omega]
  have key : ∀ T, T < Nm1 + 1 →
      ∑ n ∈ range (Nm1 + 1), (if Nm1 ≤ T + n then F (T + n - Nm1) else 0) = ∑ r ∈ range (T + 1), F r := by
    intro T hT
    rw [show Nm1 + 1 = (Nm1 - T) + (T + 1) by omega, sum_range_add,
      sum_eq_zero fun n hn => if_neg (by have := mem_range.1 hn; omega), zero_add]
    refine sum_congr rfl fun n _ => ?_
    rw [if_pos (by omega)]
    congr 1
    omega
  refine (List.foldl_ext _ _ _ fun r n _ => hstep n r).trans ?_
  rw [foldl_add_eq_sum, ← (finCongr hnum).symm.sum_comp]
  show ∑ n : Fin (Nm1 + 1), (fun n : ℕ => if Nm1 ≤ t.val + n then F (t + n - Nm1) else 0) n = _
  rw [Fin.sum_univ_eq_sum_range (fun n : ℕ => if Nm1 ≤ t.val + n then F (t + n - Nm1) else 0)]
  exact key t ht

end MlstmScan

end
-- ==== Proof.Scan.KChunk.lean ====
/- What a chunk of the kernel computes, at an index, when its blocks hold one head's tokens: the outputs and the state
   of the stabilised scan over the reals. -/
module

public import proofs.«01_k».proof.Proof.Scan.KDefs
public import proofs.«01_k».proof.Proof.Scan.Closed
public import proofs.«01_k».proof.Proof.Scan.Extended
public import Idealize.ShloMosaic.Lib.Pointwise
public import Idealize.ShloMosaic.Lib.WordCmp

@[expose] public section

set_option maxRecDepth 16384

noncomputable section

namespace MlstmScan.Kernel

open Idealize.ShloMosaic Cert.KernelIdeal Cert.KernelIdeal.Gen

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

theorem ofBits_bot : Ideal.ofBits .f32 4286578688#32 = ⊥ := by
  simp [Ideal.ofBits, Ideal.ieee]

/-- A power of two of a logarithm to base two. -/
theorem exp2_div (x : ℝ) : Ideal.exp2 ((x / Real.log 2 : ℝ) : EReal) = (Real.exp x : EReal) := by
  rw [Ideal.exp2_coe]
  congr 1
  show (2 : ℝ) ^ (x / Real.log 2) = _
  rw [Real.rpow_def_of_pos two_pos, mul_div_cancel₀]
  exact (Real.log_pos one_lt_two).ne'

/-- The lane of a pair's tile that holds feature `a` of its half `b`. -/
def lane (b : Fin 2) (a : Fin 64) : Fin 128 := ⟨64 * b + a, by omega⟩

theorem lane_div (b : Fin 2) (a : Fin 64) : (lane b a).val / 64 = b.val := by
  show (64 * b.val + a.val) / 64 = b.val
  omega

/-- A sum over a pair's lanes of terms that vanish off one half. -/
theorem sum_lanes (b : Fin 2) (f : Fin 128 → EReal) (h : ∀ c : Fin 128, c.val / 64 ≠ b.val → f c = 0) :
    ∑ c, f c = ∑ a, f (lane b a) := by
  symm
  refine Finset.sum_of_injOn (lane b) ?_ ?_ ?_ ?_
  · intro a _ a' _ e
    simpa [lane, Fin.ext_iff] using e
  · intro a _; simp
  · intro c _ hc
    refine h c fun e => hc ⟨⟨c.val - 64 * b.val, by omega⟩, by simp, Fin.ext ?_⟩
    show 64 * b.val + (c.val - 64 * b.val) = c.val
    omega
  · intro _ _; rfl

theorem sum_split (N A B : ℕ) (hN : A + B = N) (f : Fin N → EReal) :
    ∑ c, f c = (∑ j : Fin A, f ⟨j, by omega⟩) + ∑ j : Fin B, f ⟨A + j, by omega⟩ := by
  subst hN
  rw [Fin.sum_univ_add]
  rfl

variable (x : Blocks) (seen : IVec S256x256 1) (m : Vec Ideal S8x256 .f32) (σ : Equiv.Perm (Fin 256)) (p : Fin 4) (b : Fin 2)
  (L I : ℕ → ℝ) (q k : Fin 64 → ℕ → ℝ) (n : ℕ)

/-- The blocks hold the tokens from token `n` of one head: block row `t` is token `n + σ t`. The gates' features are
    logarithms to base two; `μ` is the chunk's largest score, `ν t` the largest that token `t` sees. -/
structure Holds (μ : ℝ) (ν : Fin 256 → ℝ) : Prop where
  hq : ∀ t a, x.q (ix3 0 t ⟨128 * p + lane b a, by omega⟩) = (q a (n + σ t) : EReal)
  hk : ∀ t a, x.k (ix3 0 t ⟨128 * p + lane b a, by omega⟩) = (k a (n + σ t) : EReal)
  hscore : ∀ t, x.rows (ix4 0 0 ⟨headOf p b, by omega⟩ t) = (((score L I (n + σ t) + decay L n) / Real.log 2 : ℝ) : EReal)
  htotal : ∀ t, x.rows (ix4 0 0 ⟨8 + headOf p b, by omega⟩ t) = (((decay L (n + 256) - decay L n) / Real.log 2 : ℝ) : EReal)
  hlocal : ∀ t, x.rows (ix4 0 0 ⟨16 + headOf p b, by omega⟩ t) = (((μ + decay L (n + 256)) / Real.log 2 : ℝ) : EReal)
  hpeak : ∀ t, x.cols (ix3 0 t ⟨headOf p b, by omega⟩) = ((-(ν t + decay L n) / Real.log 2 : ℝ) : EReal)
  hdecay : ∀ t, x.cols (ix3 0 t ⟨8 + headOf p b, by omega⟩) = ((-(decay L (n + σ t + 1) - decay L n) / Real.log 2 : ℝ) : EReal)
  hweight : ∀ t, x.cols (ix3 0 t ⟨16 + headOf p b, by omega⟩) = (Real.exp (score L I (n + σ t) - μ) : EReal)
  hμ : ∀ y, μ ≤ y ↔ ∀ j : Fin 256, score L I (n + j) ≤ y
  hν : ∀ t y, ν t ≤ y ↔ ∀ j : Fin 256, j ≤ σ t → score L I (n + j) ≤ y

/-- The mask that goes with the order of the block's rows. -/
def Orders : Prop := ∀ t j : Fin 256, seen (ix2 t j) = if σ j ≤ σ t then 1#1 else 0#1

variable {x seen m σ p b L I q k n} {μ : ℝ} {ν : Fin 256 → ℝ} (H : Holds x σ p b L I q k n μ ν) (hs : Orders seen σ)
  (hm : ∀ l, m (ix2 (headOf p b) l) = (((decay L n + peak L I n) / Real.log 2 : ℝ) : EReal))

theorem low_eq (t : Fin 256) (c : Fin 128) : low (ix2 t c) = if c.val < 64 then 1#1 else 0#1 := by
  pointwise [low]
  rw [show (64#32) = BitVec.ofNat 32 64 from rfl, WordCmp.cmpi_slt_ofNat (by omega) (by omega)]
  by_cases h : c.val < 64 <;> simp [h]

theorem low_lane (t : Fin 256) (b : Fin 2) (a : Fin 64) : low (ix2 t (lane b a)) = if b = 0 then 1#1 else 0#1 := by
  rw [low_eq]
  match b with
  | 0 => rw [if_pos (by show 64 * 0 + a.val < 64; omega), if_pos rfl]
  | 1 => rw [if_neg (by show ¬ 64 * 1 + a.val < 64; omega), if_neg (by decide)]

theorem qHead_eq (t : Fin 256) (c : Fin 128) :
    qHead x p b (ix2 t c) = if c.val / 64 = b.val then x.q (ix3 0 t ⟨128 * p + c, by omega⟩) else 0 := by
  match b with
  | 0 =>
    show select low (qPair x p) zeroB (ix2 t c) = _
    pointwise [qPair, zeroB]
    rw [low_eq]
    by_cases h : c.val < 64 <;> simp [h, Scalar.select, Nat.div_eq_zero_iff]
  | 1 =>
    show select low zeroB (qPair x p) (ix2 t c) = _
    pointwise [qPair, zeroB]
    rw [low_eq]
    by_cases h : c.val < 64
    · simp [h, Scalar.select, show c.val / 64 ≠ 1 by omega]
    · simp [h, Scalar.select, show c.val / 64 = 1 by omega]

theorem kPair_eq (t : Fin 256) (c : Fin 128) : kPair x p (ix2 t c) = x.k (ix3 0 t ⟨128 * p + c, by omega⟩) := by
  pointwise [kPair]

theorem colOver_eq (c : Fin 24) (t : Fin 256) (l : Fin 128) : colOver x c (ix2 t l) = x.cols (ix3 0 t ⟨c, by omega⟩) := by
  pointwise [colOver, colsOf]

include H in
theorem scores_eq (t j : Fin 256) :
    scores x p b (ix2 t j) = ((∑ a, q a (n + σ t) * k a (n + σ j) : ℝ) : EReal) := by
  have e : scores x p b (ix2 t j) = ∑ c, qHead x p b (ix2 t c) * kPair x p (ix2 j c) := by
    match b with
    | 0 =>
      pointwise [scores, bothScores]
    | 1 =>
      pointwise [scores, bothScores]
  rw [e, sum_lanes b _ fun c hc => by rw [qHead_eq, if_neg hc, zero_mul], ← sum_coe]
  refine Finset.sum_congr rfl fun a _ => ?_
  rw [qHead_eq, kPair_eq, if_pos (lane_div b a), H.hq, H.hk, EReal.coe_mul]

include H hm in
theorem negPeak_eq (t : Fin 256) (l : Fin 128) :
    negPeak x m (headOf p b) (ix2 t l) = ((-(decay L n + peak L I (n + σ t + 1)) / Real.log 2 : ℝ) : EReal) := by
  pointwise [negPeak, before]
  rw [colOver_eq, hm, H.hpeak, peak_seen (H.hν t)]
  have h2 := Real.log_pos one_lt_two
  rw [← EReal.coe_zero, ← EReal.coe_sub, ← coe_min]
  congr 1
  rw [zero_sub, ← neg_div, min_div_div_right h2.le, min_neg_neg, max_comm, add_comm (ν t), max_add_add_left]

include H hm hs in
theorem exponent_eq (t j : Fin 256) : exponent x seen m (headOf p b) (ix2 t j)
    = if σ j ≤ σ t then (((score L I (n + σ j) - peak L I (n + σ t + 1)) / Real.log 2 : ℝ) : EReal) else ⊥ := by
  have e : exponent x seen m (headOf p b) (ix2 t j) = Scalar.select (seen (ix2 t j))
      (((-(decay L n + peak L I (n + σ t + 1)) / Real.log 2 : ℝ) : EReal) + x.rows (ix4 0 0 ⟨headOf p b, by omega⟩ j)) ⊥ := by
    pointwise [exponent, scoreRow, rows8]
    simp only [negPeak_eq H hm, ofBits_bot, dite_eq_ite, ite_self]
  rw [e, hs, H.hscore]
  by_cases h : σ j ≤ σ t
  · rw [if_pos h, if_pos h, ← EReal.coe_add]
    simp only [Scalar.select]
    rw [if_pos (by decide)]
    congr 1
    ring
  · rw [if_neg h, if_neg h]
    simp [Scalar.select]

include H hm hs in
theorem weighted_eq (t j : Fin 256) : weighted x seen m p b (ix2 t j) =
    ((if σ j ≤ σ t then (∑ a, q a (n + σ t) * k a (n + σ j)) * Real.exp (score L I (n + σ j) - peak L I (n + σ t + 1)) else 0 : ℝ) : EReal) := by
  pointwise [weighted]
  rw [scores_eq H, exponent_eq H hs hm]
  split_ifs
  · show _ * Ideal.exp2 _ = _
    rw [exp2_div, ← EReal.coe_mul]
  · show _ * Ideal.exp2 ⊥ = _
    rw [Ideal.exp2_bot, mul_zero, EReal.coe_zero]

include H hm in
theorem qScaled_eq (t : Fin 256) (c : Fin 128) : qScaled x m p b (ix2 t c)
    = qHead x p b (ix2 t c) * (Real.exp (peak L I n - peak L I (n + σ t + 1)) : EReal) := by
  pointwise [qScaled, before]
  rw [negPeak_eq H hm, hm, ← EReal.coe_add, ← exp2_div]
  congr 3
  ring

variable {C : Vec Ideal S1x128x256 .f32} {y : Fin 256} {w : ℕ → ℝ}
  (hw : ∀ j, vOnes x (headOf p b) (ix2 j y) = (w (n + σ j) : EReal))
  (hC : ∀ a, C (ix3 0 (lane b a) y) = (state L I (k a) w n : EReal))

include H hm hs hw hC in
/-- The numerator (where `w` are values) and the denominator (where `w` is one). -/
theorem numDen_eq (t : Fin 256) : numDen x seen m p b C (ix2 t y)
    = (readout L I (fun j => ∑ a, q a (n + σ t) * k a j) w (n + σ t) : EReal) := by
  have e : numDen x seen m p b C (ix2 t y) = (∑ j, weighted x seen m p b (ix2 t j) * vOnes x (headOf p b) (ix2 j y))
      + ∑ c, qScaled x m p b (ix2 t c) * C (ix3 0 c y) := by
    pointwise [numDen]
  rw [e, sum_lanes b _ fun c hc => by rw [qScaled_eq H hm, qHead_eq, if_neg hc, zero_mul, zero_mul]]
  simp only [weighted_eq H hs hm, hw, qScaled_eq H hm, qHead_eq, lane_div, if_true, H.hq, hC, ← EReal.coe_mul, sum_coe, ← EReal.coe_add]
  rw [readout_chunk (fun a => q a (n + σ t)) k w n 256 (σ t), ← Equiv.sum_comp σ (fun j : Fin 256 => _ * w (n + j)), Finset.mul_sum]
  congr 3
  funext a
  ring

theorem div_floor (x y z : ℝ) : Ideal.div (x : EReal) (max (FloatOps.absf (F := Ideal) (φ := .f32) (y : EReal)) (Real.exp (-z) : EReal))
    = ((x / max |y| (Real.exp (-z)) : ℝ) : EReal) := by
  have hpos : max |y| (Real.exp (-z)) ≠ 0 := (lt_of_lt_of_le (Real.exp_pos _) (le_max_right _ _)).ne'
  rw [Ideal.absf_def, ← EReal.coe_neg, ← coe_max, ← coe_max, ← abs_eq_max_neg, Ideal.div_coe hpos, ← EReal.coe_mul, mul_one_div]

include H hm in
theorem floor_eq (t : Fin 256) (l : Fin 128) : floorOf x m (headOf p b) (ix2 t l)
    = (Real.exp (-(decay L (n + σ t + 1) + peak L I (n + σ t + 1))) : EReal) := by
  pointwise [floorOf]
  rw [negPeak_eq H hm, colOver_eq, H.hdecay, ← EReal.coe_add, ← exp2_div]
  congr 2
  ring

/-- The column of a head's value feature, and those of the state that hold it and the normaliser. -/
def colV (h : Fin 8) (e : Fin 128) : Fin 1024 := ⟨128 * h + e, by omega⟩
def colC (e : Fin 128) : Fin 256 := ⟨e, by omega⟩
def colN (e : Fin 128) : Fin 256 := ⟨128 + e, by omega⟩

theorem vOnes_value (h : Fin 8) (j : Fin 256) (e : Fin 128) :
    vOnes x h (ix2 j (colC e)) = x.v (ix3 0 j (colV h e)) := by
  unfold colC colV
  pointwise [vOnes, vHead]
theorem vOnes_one (h : Fin 8) (j : Fin 256) (e : Fin 128) : vOnes x h (ix2 j (colN e)) = ((1 : ℝ) : EReal) := by
  unfold colN
  pointwise [vOnes, ones]
  simp

variable {v : ℕ → ℝ} {e : Fin 128} (hv : ∀ j, x.v (ix3 0 j (colV (headOf p b) e)) = (v (n + σ j) : EReal))
  (hCv : ∀ a, C (ix3 0 (lane b a) (colC e)) = (state L I (k a) v n : EReal))
  (hCn : ∀ a, C (ix3 0 (lane b a) (colN e)) = (state L I (k a) (fun _ => 1) n : EReal))

include H hm hs hv hCv hCn in
/-- The chunk's output. -/
theorem headOut_eq (t : Fin 256) : headOut x seen m p b C (ix3 0 t e)
    = (output L I (fun j => ∑ a, q a (n + σ t) * k a j) v (n + σ t) : EReal) := by
  pointwise [headOut]
  change Ideal.div (numDen x seen m p b C (ix2 t (colC e))) (max (FloatOps.absf (F := Ideal) (φ := .f32) (numDen x seen m p b C (ix2 t (colN e)))) _) = _
  rw [numDen_eq H hs hm (fun j => (vOnes_value _ j e).trans (hv j)) hCv, numDen_eq H hs hm (fun j => vOnes_one _ j e) hCn, floor_eq H hm]
  exact div_floor _ _ _

include H hm in
/-- The stabiliser after the chunk. -/
theorem peakNew_eq (l : Fin 256) : peakNew x m (ix2 (headOf p b) l)
    = (((decay L (n + 256) + peak L I (n + 256)) / Real.log 2 : ℝ) : EReal) := by
  pointwise [peakNew, totalRow, localRow, rows8]
  rw [H.htotal, H.hlocal, hm, ← EReal.coe_add, ← coe_max, peak_chunk H.hμ, ← max_add_add_left]
  have h2 := Real.log_pos one_lt_two
  rw [← max_div_div_right h2.le]
  ring_nf

include H hm in
theorem peakNext_eq (l : Fin 256) : peakNext x m (ix2 (headOf p b) l)
    = (((decay L (n + 256) + peak L I (n + 256)) / Real.log 2 : ℝ) : EReal) := by
  pointwise [peakNext]
  exact peakNew_eq H hm l

include H hm in
theorem keep_eq (l : Fin 256) : keepScale x m (ix2 (headOf p b) l) = (Real.exp (peak L I n - peak L I (n + 256)) : EReal) := by
  pointwise [keepScale, totalRow, rows8]
  rw [peakNew_eq H hm, H.htotal, hm, ← EReal.coe_add, ← EReal.coe_sub, ← exp2_div]
  congr 2
  ring

include H hm in
theorem freshScale_eq (l : Fin 256) : freshScale x m (ix2 (headOf p b) l) = (Real.exp (μ - peak L I (n + 256)) : EReal) := by
  pointwise [freshScale, localRow, rows8]
  rw [peakNew_eq H hm, H.hlocal, ← EReal.coe_sub, ← exp2_div]
  congr 2
  ring

theorem perRow_eq (f : FVec Ideal S8x256 .f32) (r : ℝ) (hf : ∀ l, f (ix2 (headOf p b) l) = (r : EReal)) (a : Fin 64) (y : Fin 256) :
    perRow f p (ix2 (lane b a) y) = (r : EReal) := by
  match b with
  | 0 =>
    pointwise [perRow, halfRow]
    simp [lane, hf]
  | 1 =>
    pointwise [perRow, halfRow]
    simp [lane, hf]

include H hw in
theorem fresh_eq (a : Fin 64) : fresh x p (ix2 (lane b a) y)
    = ((∑ j : Fin 256, Real.exp (score L I (n + j) - μ) * k a (n + j) * w (n + j) : ℝ) : EReal) := by
  have e : fresh x p (ix2 (lane b a) y)
      = (∑ j, (x.k (ix3 0 j ⟨128 * p + lane b a, by omega⟩) * Scalar.select (low (ix2 j (lane b a))) (x.cols (ix3 0 j ⟨16 + 2 * p, by omega⟩)) 0)
          * vOnes x (headOf p 0) (ix2 j y))
        + ∑ j, (x.k (ix3 0 j ⟨128 * p + lane b a, by omega⟩) * Scalar.select (low (ix2 j (lane b a))) 0 (x.cols (ix3 0 j ⟨17 + 2 * p, by omega⟩)))
          * vOnes x (headOf p 1) (ix2 j y) := by
    pointwise [fresh, keyWeights, zeroF]
    simp only [colOver_eq, kPair_eq]
  rw [e, ← Equiv.sum_comp σ (fun j : Fin 256 => Real.exp (score L I (n + j) - μ) * k a (n + j) * w (n + j)), ← sum_coe]
  simp only [low_lane, H.hk]
  have one : ∀ u v : EReal, Scalar.select 1#1 u v = u := fun _ _ => if_pos (by decide)
  have zero : ∀ u v : EReal, Scalar.select 0#1 u v = v := fun _ _ => if_neg (by decide)
  rcases (show b = 0 ∨ b = 1 by omega) with rfl | rfl
  · have hc : ∀ j, x.cols (ix3 0 j ⟨16 + 2 * p, by omega⟩) = _ := H.hweight
    simp only [if_true, one, mul_zero, zero_mul, Finset.sum_const_zero, add_zero]
    refine Finset.sum_congr rfl fun j _ => ?_
    rw [hc, hw, ← EReal.coe_mul, ← EReal.coe_mul]
    congr 1
    ring
  · have hc : ∀ j, x.cols (ix3 0 j ⟨17 + 2 * p, by omega⟩) = (Real.exp (score L I (n + σ j) - μ) : EReal) := fun j => by
      rw [← H.hweight j]
      congr 2
      exact Fin.ext (by show 17 + 2 * p.val = 16 + (2 * p.val + 1); omega)
    simp only [one_ne_zero, if_false, zero, mul_zero, zero_mul, Finset.sum_const_zero, zero_add]
    refine Finset.sum_congr rfl fun j _ => ?_
    rw [hc, hw, ← EReal.coe_mul, ← EReal.coe_mul]
    congr 1
    ring

include H hm hw hC in
/-- The state after the chunk. -/
theorem stateNext_eq (a : Fin 64) : stateNext x m p C (ix3 0 (lane b a) y) = (state L I (k a) w (n + 256) : EReal) := by
  pointwise [stateNext]
  rw [perRow_eq _ _ (keep_eq H hm), perRow_eq _ _ (freshScale_eq H hm), fresh_eq H hw, hC, ← EReal.coe_mul, ← EReal.coe_mul,
    ← EReal.coe_add, state_chunk (k a) w n 256 μ]

end MlstmScan.Kernel
-- ==== Proof.Scan.KHost.lean ====
/- The arrays that the kernel's host code prepares of the gates, at an index: the features by rows and by columns. -/
module

public import proofs.«01_k».proof.Proof.Scan.KChunk
public import proofs.«01_k».proof.Proof.Gen.KernelIdeal.Value
public import Idealize.ShloMosaic.Lib.StableHlo.RunRead
public import Idealize.ShloMosaic.Lib.StableHlo.ReadAt

@[expose] public section

set_option maxRecDepth 16384

noncomputable section

namespace MlstmScan.Kernel

open Idealize.ShloMosaic Idealize.ShloMosaic.TcCoe Cert.KernelIdeal Cert.KernelIdeal.Gen

namespace Prep

def zero0 : FVec Ideal S_ .f32 := constant S_ .f32 0x00000000#32
def bot0 : FVec Ideal S_ .f32 := constant S_ .f32 0xFF800000#32
def log2 : FVec Ideal S_ .f32 := Host.log (constant S_ .f32 0x40000000#32)
def zero4 : FVec Ideal S8x16x8x256 .f32 := broadcastInDim S8x16x8x256 ![] bcast_S_S8x16x8x256 zero0

/-- The masks over a chunk. -/
def maskUp : IVec S256x256 1 := cmpi .sle (iotaInDim S256x256 32 1) (iotaInDim S256x256 32 0)
def maskDown : IVec S256x256 1 := cmpi .sge (iotaInDim S256x256 32 1) (iotaInDim S256x256 32 0)

variable (G : FVec Ideal S8x4096x16 .f32) (M : IVec S256x256 1)

def chunks : FVec Ideal S8x16x16x256 .f32 :=
  transpose S8x16x16x256 [0, 1, 3, 2] (shapeCast S8x16x256x16 G shapeCasts_S8x4096x16_S8x16x256x16)
    transposes_S8x16x256x16_S8x16x16x256_0_1_3_2
def inGate : FVec Ideal S8x16x8x256 .f32 := extractStridedSlice S8x16x8x256 ![0, 0, 0, 0] (chunks G) slices_S8x16x16x256_S8x16x8x256_0_0_0_0
def negF : FVec Ideal S8x16x8x256 .f32 :=
  Host.negf (extractStridedSlice S8x16x8x256 ![0, 0, 8, 0] (chunks G) slices_S8x16x16x256_S8x16x8x256_0_0_8_0)
def logF : FVec Ideal S8x16x8x256 .f32 :=
  Host.negf (select (cmpf .une (subf (negF G) zero4) (subf (negF G) zero4)) (addf (negF G) zero4)
    (addf (maximumf (negF G) zero4) (Host.log1p (Host.exp (Host.negf (Host.absf (subf (negF G) zero4)))))))
/-- What each token sees of a row, and `z` where it sees none. -/
def masked (x : FVec Ideal S8x16x8x256 .f32) (z : FVec Ideal S_ .f32) : FVec Ideal S8x16x8x256x256 .f32 :=
  select (broadcastInDim S8x16x8x256x256 ![3, 4] bcast_S256x256_S8x16x8x256x256_3_4 M)
    (broadcastInDim S8x16x8x256x256 ![0, 1, 2, 3, 4] bcast_S8x16x8x1x256_S8x16x8x256x256_0_1_2_3_4
      (broadcastInDim S8x16x8x1x256 ![0, 1, 2, 4] bcast_S8x16x8x256_S8x16x8x1x256_0_1_2_4 x))
    (broadcastInDim S8x16x8x256x256 ![] bcast_S_S8x16x8x256x256 z)
def run : FVec Ideal S8x16x8x256 .f32 := Host.reduceAdd (masked M (logF G) zero0) zero0 reducesTo_S8x16x8x256x256_S8x16x8x256_d4 h_S_
def rel : FVec Ideal S8x16x8x256 .f32 := subf (inGate G) (run G M)
def top : FVec Ideal S8x16x8x256 .f32 :=
  Host.reduce FloatOps.maximumf (masked M (rel G M) bot0) bot0 reducesTo_S8x16x8x256x256_S8x16x8x256_d4 h_S_
def overRow (x : FVec Ideal S8x16x8 .f32) : FVec Ideal S8x16x8x256 .f32 :=
  broadcastInDim S8x16x8x256 ![0, 1, 2, 3] bcast_S8x16x8x1_S8x16x8x256_0_1_2_3 (broadcastInDim S8x16x8x1 ![0, 1, 2] bcast_S8x16x8_S8x16x8x1_0_1_2 x)
def total : FVec Ideal S8x16x8x256 .f32 := overRow (Host.reduceAdd (logF G) zero0 reducesTo_S8x16x8x256_S8x16x8_d3 h_S_)
def arrive : FVec Ideal S8x16x8x256 .f32 := addf (total G) (rel G M)
def most : FVec Ideal S8x16x8x256 .f32 :=
  overRow (Host.reduce FloatOps.maximumf (arrive G M) bot0 reducesTo_S8x16x8x256_S8x16x8_d3 h_S_)
def overLog2 (x : FVec Ideal S8x16x8x256 .f32) : FVec Ideal S8x16x8x256 .f32 :=
  Host.divf x (broadcastInDim S8x16x8x256 ![] bcast_S_S8x16x8x256 log2)
def rowsOf (a b c : FVec Ideal S8x16x8x256 .f32) : FVec Ideal S8x16x24x256 .f32 :=
  Host.divf (concatenate S8x16x24x256 2 [⟨S8x16x8x256, a⟩, ⟨S8x16x8x256, b⟩, ⟨S8x16x8x256, c⟩]
    concatenates_S8x16x8x256_S8x16x8x256_S8x16x8x256_S8x16x24x256_d2) (broadcastInDim S8x16x24x256 ![] bcast_S_S8x16x24x256 log2)
def colsOf (a b c d : FVec Ideal S8x16x8x256 .f32) : FVec Ideal S8x4096x32 .f32 :=
  shapeCast S8x4096x32 (transpose S8x16x256x32 [0, 1, 3, 2]
    (concatenate S8x16x32x256 2 [⟨S8x16x8x256, a⟩, ⟨S8x16x8x256, b⟩, ⟨S8x16x8x256, c⟩, ⟨S8x16x8x256, d⟩]
      concatenates_S8x16x8x256_S8x16x8x256_S8x16x8x256_S8x16x8x256_S8x16x32x256_d2)
    transposes_S8x16x32x256_S8x16x256x32_0_1_3_2) shapeCasts_S8x16x256x32_S8x4096x32
def rows : FVec Ideal S8x16x24x256 .f32 := rowsOf (rel G M) (total G) (most G M)
def cols : FVec Ideal S8x4096x32 .f32 :=
  colsOf (overLog2 (Host.negf (top G M))) (overLog2 (Host.negf (run G M))) (Host.exp (subf (arrive G M) (most G M))) zero4

end Prep

variable (m : (ℓ : Loc nD τ sig) → Buf (Elt Ideal) ℓ)

def gatesFw (c : Dev nD) : FVec Ideal S8x4096x16 .f32 :=
  extractStridedSlice S8x4096x16 ![0, 0, 0] (m ((c : Thread nD τ).loc main_arg3)) slices_S8x4096x32_S8x4096x16_0_0_0
def gatesBw (c : Dev nD) : FVec Ideal S8x4096x16 .f32 :=
  extractStridedSlice S8x4096x16 ![0, 0, 16] (m ((c : Thread nD τ).loc main_arg3)) slices_S8x4096x32_S8x4096x16_0_0_16

/-- An array the host prepares, read after the first `n` host operations. -/
abbrev early (n : ℕ) (c : Dev nD) (b : Ref sig .tc) :=
  StableHlo.upto (List.flatten [hostOps0, hostOps0_1, hostOps0_2, hostOps0_3, hostOps0_4, hostOps0_5, hostOps0_6, hostOps0_7, hostOps0_8]) (fun b => m (c, b)) n (Proc.tc.devRef b)

theorem early_26 (c : Dev nD) : early m 54 c main_v26 = Prep.rel (gatesFw m c) Prep.maskUp := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_32 (c : Dev nD) : early m 54 c main_v32 = Prep.total (gatesFw m c) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_36 (c : Dev nD) : early m 54 c main_v36 = Prep.most (gatesFw m c) Prep.maskUp := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_43 (c : Dev nD) : early m 67 c main_v43 = Prep.overLog2 (Host.negf (Prep.top (gatesFw m c) Prep.maskUp)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_46 (c : Dev nD) : early m 67 c main_v46 = Prep.overLog2 (Host.negf (Prep.run (gatesFw m c) Prep.maskUp)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_48 (c : Dev nD) : early m 67 c main_v48 = Host.exp (subf (Prep.arrive (gatesFw m c) Prep.maskUp) (Prep.most (gatesFw m c) Prep.maskUp)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_49 (c : Dev nD) : early m 67 c main_v49 = Prep.zero4 := by
  unfold early
  after_reads_simp
  rfl

/-- The rows of gate values the fw scan reads. -/
theorem V_rows_fw (c : Dev nD) : V m c main_v40 = Prep.rows (gatesFw m c) Prep.maskUp := by
  unfold V
  after_reads_simp
  have h : Prep.rowsOf (early m 54 c main_v26) (early m 54 c main_v32) (early m 54 c main_v36) = Prep.rows (gatesFw m c) Prep.maskUp := by
    rw [early_26, early_32, early_36]
    rfl
  exact h

/-- The columns of gate values the fw scan reads. -/
theorem V_cols_fw (c : Dev nD) : V m c main_v52 = Prep.cols (gatesFw m c) Prep.maskUp := by
  unfold V
  after_reads_simp
  exact congr (congr (congr (congrArg Prep.colsOf (early_43 m c)) (early_46 m c)) (early_48 m c)) (early_49 m c)

theorem early_79 (c : Dev nD) : early m 124 c main_v79 = Prep.rel (gatesBw m c) Prep.maskDown := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_85 (c : Dev nD) : early m 124 c main_v85 = Prep.total (gatesBw m c) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_89 (c : Dev nD) : early m 124 c main_v89 = Prep.most (gatesBw m c) Prep.maskDown := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_96 (c : Dev nD) : early m 137 c main_v96 = Prep.overLog2 (Host.negf (Prep.top (gatesBw m c) Prep.maskDown)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_99 (c : Dev nD) : early m 137 c main_v99 = Prep.overLog2 (Host.negf (Prep.run (gatesBw m c) Prep.maskDown)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_101 (c : Dev nD) : early m 137 c main_v101 = Host.exp (subf (Prep.arrive (gatesBw m c) Prep.maskDown) (Prep.most (gatesBw m c) Prep.maskDown)) := by
  unfold early
  after_reads_simp
  simp only [Prep.rel, Prep.total, Prep.most, Prep.inGate, Prep.run, Prep.overRow, Prep.arrive, Prep.masked, Prep.logF, Prep.negF, Prep.zero4, Prep.zero0, Prep.chunks, Prep.bot0, Prep.log2, Prep.maskUp, Prep.maskDown, Prep.top, Prep.overLog2, gatesFw, gatesBw]
  rfl

theorem early_102 (c : Dev nD) : early m 137 c main_v102 = Prep.zero4 := by
  unfold early
  after_reads_simp
  rfl

/-- The rows of gate values the bw scan reads. -/
theorem V_rows_bw (c : Dev nD) : V m c main_v93 = Prep.rows (gatesBw m c) Prep.maskDown := by
  unfold V
  after_reads_simp
  have h : Prep.rowsOf (early m 124 c main_v79) (early m 124 c main_v85) (early m 124 c main_v89) = Prep.rows (gatesBw m c) Prep.maskDown := by
    rw [early_79, early_85, early_89]
    rfl
  exact h

/-- The columns of gate values the bw scan reads. -/
theorem V_cols_bw (c : Dev nD) : V m c main_v105 = Prep.cols (gatesBw m c) Prep.maskDown := by
  unfold V
  after_reads_simp
  exact congr (congr (congr (congrArg Prep.colsOf (early_96 m c)) (early_99 m c)) (early_101 m c)) (early_102 m c)

/-- The queries, as given. -/
theorem V_q (c : Dev nD) : V m c main_v106 = truncf (F := Ideal) (s := S8x4096x512) (φ := .f32) FTy.bf16 (m (c, Proc.tc.devRef main_arg0)) bitsLt_bf16_f32 := by
  unfold V
  after_reads_simp
/-- The keys, over eight. -/
theorem V_k (c : Dev nD) : V m c main_v109 = truncf (F := Ideal) (s := S8x4096x512) (φ := .f32) FTy.bf16
    (mulf (m (c, Proc.tc.devRef main_arg1)) (broadcastInDim S8x4096x512 ![] bcast_S_S8x4096x512 (constant S_ .f32 0x3E000000#32))) bitsLt_bf16_f32 := by
  unfold V
  after_reads_simp

/-- The values, as given. -/
theorem V_v (c : Dev nD) : V m c main_v110 = truncf (F := Ideal) (s := S8x4096x1024) (φ := .f32) FTy.bf16
    (m (c, Proc.tc.devRef main_arg2)) bitsLt_bf16_f32 := by
  unfold V
  after_reads_simp

end MlstmScan.Kernel
-- ==== Proof.Scan.KPrep.lean ====
/- The gates' features of one chunk, as the host prepares them, at an index. -/
module

public import proofs.«01_k».proof.Proof.Scan.KHost
public import proofs.«01_k».proof.Proof.Scan.Seqs
public import Idealize.ShloMosaic.PureOps.Ideal

@[expose] public section

set_option maxRecDepth 16384

noncomputable section

namespace MlstmScan.Kernel

open Idealize.ShloMosaic Cert.KernelIdeal Cert.KernelIdeal.Gen

namespace Prep

variable {G : FVec Ideal S8x4096x16 .f32} {M : IVec S256x256 1} {σ : Equiv.Perm (Fin 256)} {L I : ℕ → ℝ} {n : ℕ}
  {B : Fin 8} {c : Fin 16} {h : Fin 8}
  (hM : Orders M σ)
  (hL : ∀ t, logF G (ix4 B c h t) = (L (n + σ t) : EReal))
  (hI : ∀ t, inGate G (ix4 B c h t) = (I (n + σ t) : EReal))

theorem masked_eq (x : FVec Ideal S8x16x8x256 .f32) (z : FVec Ideal S_ .f32) (t j : Fin 256) :
    masked M x z (ix5 B c h t j) = if M (ix2 t j) = 1#1 then x (ix4 B c h j) else z ix0 := by
  pointwise [masked]
  rfl

theorem run_sum (t : Fin 256) : run G M (ix4 B c h t) = ∑ j : Fin 256, masked M (logF G) zero0 (ix5 B c h t j) := by
  unfold run
  generalize masked M (logF G) zero0 = x
  pointwise [zero0]

theorem total_sum (t : Fin 256) : total G (ix4 B c h t) = ∑ j : Fin 256, logF G (ix4 B c h j) := by
  unfold total
  generalize logF G = x
  pointwise [overRow, zero0]

theorem top_fold (t : Fin 256) : top G M (ix4 B c h t)
    = (Finset.univ : Finset (Fin 256)).fold max (⊥ : EReal) (fun j => masked M (rel G M) bot0 (ix5 B c h t j)) := by
  unfold top
  generalize masked M (rel G M) bot0 = x
  pointwise [bot0]
  rw [ofBits_bot]

theorem most_fold (t : Fin 256) : most G M (ix4 B c h t)
    = (Finset.univ : Finset (Fin 256)).fold max (⊥ : EReal) (fun j => arrive G M (ix4 B c h j)) := by
  unfold most
  generalize arrive G M = x
  pointwise [overRow, bot0]
  rw [ofBits_bot]

theorem log2_eq (u : S_.Idx) : log2 u = (Real.log 2 : EReal) := by
  have h2 : Ideal.ofBits .f32 0x40000000#32 = ((2 : ℝ) : EReal) := by
    simp only [Ideal.ofBits, Ideal.ieee]
    simp
    rw [← EReal.coe_mul]
    norm_num
  show Ideal.log (Ideal.ofBits .f32 0x40000000#32) = _
  rw [h2, Ideal.log_coe, if_neg (by norm_num)]

theorem zero_eq : zero0 ix0 = 0 := by
  show Ideal.ofBits .f32 0#32 = 0
  simp

theorem bot_eq : bot0 ix0 = ⊥ := ofBits_bot

section
variable (a b d e : FVec Ideal S8x16x8x256 .f32)

theorem rowsOf_one (t : Fin 256) : rowsOf a b d (ix4 B c ⟨h, by omega⟩ t) = Ideal.div (a (ix4 B c h t)) (log2 ix0) := by
  pointwise [rowsOf]

theorem rowsOf_two (t : Fin 256) : rowsOf a b d (ix4 B c ⟨8 + h, by omega⟩ t) = Ideal.div (b (ix4 B c h t)) (log2 ix0) := by
  pointwise [rowsOf]

theorem rowsOf_three (t : Fin 256) : rowsOf a b d (ix4 B c ⟨16 + h, by omega⟩ t) = Ideal.div (d (ix4 B c h t)) (log2 ix0) := by
  have e : ∀ r : ℕ, r = h.val → (hr : r < 8) → d (ix4 B c ⟨r, hr⟩ t) = d (ix4 B c h t) := fun r e hr => by subst e; rfl
  pointwise [rowsOf]
  rw [dif_neg (by omega), dif_neg (by omega), e _ (by omega)]

theorem colsOf_eq (t : Fin 256) (u : Fin 32) : colsOf a b d e (ix3 B (token c t) u)
    = concatenate S8x16x32x256 2 [⟨S8x16x8x256, a⟩, ⟨S8x16x8x256, b⟩, ⟨S8x16x8x256, d⟩, ⟨S8x16x8x256, e⟩]
      concatenates_S8x16x8x256_S8x16x8x256_S8x16x8x256_S8x16x8x256_S8x16x32x256_d2 (ix4 B c u t) := by
  unfold colsOf
  generalize concatenate S8x16x32x256 2 [⟨S8x16x8x256, a⟩, ⟨S8x16x8x256, b⟩, ⟨S8x16x8x256, d⟩, ⟨S8x16x8x256, e⟩]
      concatenates_S8x16x8x256_S8x16x8x256_S8x16x8x256_S8x16x8x256_S8x16x32x256_d2 = x
  pointwise
  have h0 : (token c t).val = 256 * c.val + t.val := rfl
  have h1 : (⟨(token c t).val / 256, by omega⟩ : Fin 16) = c := Fin.ext (by show (token c t).val / 256 = c.val; omega)
  have h2 : (⟨(token c t).val % 256, by omega⟩ : Fin 256) = t := Fin.ext (by show (token c t).val % 256 = t.val; omega)
  rw [h1, h2]

theorem colsOf_one (t : Fin 256) : colsOf a b d e (ix3 B (token c t) ⟨h, by omega⟩) = a (ix4 B c h t) := by
  rw [colsOf_eq]
  pointwise

theorem colsOf_two (t : Fin 256) : colsOf a b d e (ix3 B (token c t) ⟨8 + h, by omega⟩) = b (ix4 B c h t) := by
  rw [colsOf_eq]
  pointwise

theorem colsOf_three (t : Fin 256) : colsOf a b d e (ix3 B (token c t) ⟨16 + h, by omega⟩) = d (ix4 B c h t) := by
  have e : ∀ r : ℕ, r = h.val → (hr : r < 8) → d (ix4 B c ⟨r, hr⟩ t) = d (ix4 B c h t) := fun r e hr => by subst e; rfl
  rw [colsOf_eq]
  pointwise
  rw [dif_neg (by omega), dif_neg (by omega), dif_pos (by omega), e _ (by omega)]
end

theorem rows_one (t : Fin 256) : rows G M (ix4 B c ⟨h, by omega⟩ t) = Ideal.div (rel G M (ix4 B c h t)) (log2 ix0) := by
  unfold rows
  exact rowsOf_one (rel G M) (total G) (most G M) t

theorem rows_two (t : Fin 256) : rows G M (ix4 B c ⟨8 + h, by omega⟩ t) = Ideal.div (total G (ix4 B c h t)) (log2 ix0) := by
  unfold rows
  exact rowsOf_two (rel G M) (total G) (most G M) t

theorem rows_three (t : Fin 256) : rows G M (ix4 B c ⟨16 + h, by omega⟩ t) = Ideal.div (most G M (ix4 B c h t)) (log2 ix0) := by
  unfold rows
  exact rowsOf_three (rel G M) (total G) (most G M) t

theorem overLog2_eq (x : FVec Ideal S8x16x8x256 .f32) (i : S8x16x8x256.Idx) : overLog2 x i = Ideal.div (x i) (log2 ix0) := by
  generalize hz : log2 = z
  pointwise [overLog2, hz]

theorem colsOf_peak (y y' z : FVec Ideal S8x16x8x256 .f32) (t : Fin 256) :
    colsOf (overLog2 (Host.negf y)) y' z zero4 (ix3 B (token c t) ⟨h, by omega⟩) = Ideal.div (-(y (ix4 B c h t))) (log2 ix0) :=
  (colsOf_one (overLog2 (Host.negf y)) y' z zero4 t).trans (overLog2_eq (Host.negf y) _)

theorem cols_one (t : Fin 256) : cols G M (ix3 B (token c t) ⟨h, by omega⟩) = Ideal.div (-(top G M (ix4 B c h t))) (log2 ix0) :=
  colsOf_peak (top G M) _ _ t

theorem cols_two (t : Fin 256) : cols G M (ix3 B (token c t) ⟨8 + h, by omega⟩) = Ideal.div (-(run G M (ix4 B c h t))) (log2 ix0) := by
  unfold cols
  generalize run G M = y
  rw [colsOf_two, overLog2_eq]
  rfl

theorem cols_three (t : Fin 256) : cols G M (ix3 B (token c t) ⟨16 + h, by omega⟩)
    = Ideal.exp (arrive G M (ix4 B c h t) - most G M (ix4 B c h t)) := by
  unfold cols
  generalize arrive G M = y, most G M = z
  rw [colsOf_three]
  rfl

include hM hL

theorem run_eq (t : Fin 256) : run G M (ix4 B c h t) = ((decay L (n + σ t + 1) - decay L n : ℝ) : EReal) := by
  rw [run_sum, decay_seen, add_sub_cancel_left, ← sum_coe, ← Equiv.sum_comp σ (fun j : Fin 256 => (((if j ≤ σ t then L (n + j) else 0 : ℝ)) : EReal))]
  refine Finset.sum_congr rfl fun j _ => ?_
  rw [masked_eq, hM, hL]
  by_cases hj : σ j ≤ σ t <;> simp [hj, zero_eq]

omit hM in
theorem total_eq (t : Fin 256) : total G (ix4 B c h t) = ((decay L (n + 256) - decay L n : ℝ) : EReal) := by
  rw [total_sum, decay_add, add_sub_cancel_left, ← sum_coe, ← Equiv.sum_comp σ (fun j : Fin 256 => (((L (n + j) : ℝ)) : EReal))]
  exact Finset.sum_congr rfl fun j _ => hL j

include hI

theorem rel_eq (t : Fin 256) : rel G M (ix4 B c h t) = ((score L I (n + σ t) + decay L n : ℝ) : EReal) := by
  show inGate G _ - run G M _ = _
  rw [hI, run_eq hM hL, ← EReal.coe_sub]
  congr 1
  unfold score
  ring

theorem arrive_eq (t : Fin 256) : arrive G M (ix4 B c h t) = ((score L I (n + σ t) + decay L (n + 256) : ℝ) : EReal) := by
  show total G _ + rel G M _ = _
  rw [total_eq hL, rel_eq hM hL hI, ← EReal.coe_add]
  congr 1
  ring

theorem exists_top (t : Fin 256) : ∃ ν : ℝ, top G M (ix4 B c h t) = ((ν + decay L n : ℝ) : EReal)
    ∧ ∀ y, ν ≤ y ↔ ∀ j : Fin 256, j ≤ σ t → score L I (n + j) ≤ y := by
  obtain ⟨μ, h1, h2⟩ := fold_max_mask (fun j : Fin 256 => σ j ≤ σ t) (fun j => score L I (n + σ j) + decay L n) ⟨t, le_rfl⟩
  refine ⟨μ - decay L n, ?_, fun y => ?_⟩
  · rw [top_fold, sub_add_cancel, ← h1]
    congr 1
    funext j
    rw [masked_eq, hM, rel_eq hM hL hI]
    by_cases hj : σ j ≤ σ t <;> simp [hj, bot_eq]
  · rw [sub_le_iff_le_add, h2, ← σ.forall_congr_right (q := fun j : Fin 256 => j ≤ σ t → score L I (n + j) ≤ y)]
    simp

theorem exists_most : ∃ μ : ℝ, (∀ t, most G M (ix4 B c h t) = ((μ + decay L (n + 256) : ℝ) : EReal))
    ∧ ∀ y, μ ≤ y ↔ ∀ j : Fin 256, score L I (n + j) ≤ y := by
  obtain ⟨μ, h1, h2⟩ := fold_max_coe (m := 256) (by omega) (fun j => score L I (n + σ j) + decay L (n + 256))
  refine ⟨μ - decay L (n + 256), fun t => ?_, fun y => ?_⟩
  · rw [most_fold, sub_add_cancel, ← h1]
    congr 1
    funext j
    rw [arrive_eq hM hL hI]
  · rw [sub_le_iff_le_add, h2, ← σ.forall_congr_right (q := fun j : Fin 256 => score L I (n + j) ≤ y)]
    simp

end Prep

end MlstmScan.Kernel
-- ==== Proof.Scan.KGates.lean ====
/- The gates that the host prepares from, over the reals. -/
module

public import proofs.«01_k».proof.Proof.Scan.KPrep
public import proofs.«01_k».proof.Proof.Scan.Seqs

@[expose] public section

set_option maxRecDepth 16384

noncomputable section

namespace MlstmScan.Kernel

open Idealize.ShloMosaic Cert.KernelIdeal Cert.KernelIdeal.Gen

namespace Prep

variable (G : FVec Ideal S8x4096x16 .f32) (B : Fin 8) (c : Fin 16) (h : Fin 8) (t : Fin 256)

theorem chunks_eq (u : Fin 16) : chunks G (ix4 B c u t) = G (ix3 B (token c t) u) := by
  have e : (⟨c.val * 256 + t.val, by omega⟩ : Fin 4096) = token c t := Fin.ext (by show c.val * 256 + t.val = 256 * c.val + t.val; omega)
  pointwise [chunks]
  rw [e]

theorem inGate_eq : inGate G (ix4 B c h t) = G (ix3 B (token c t) ⟨h, by omega⟩) := by
  rw [← chunks_eq G B c t ⟨h, by omega⟩]
  pointwise [inGate]

theorem negF_eq : negF G (ix4 B c h t) = -G (ix3 B (token c t) ⟨8 + h, by omega⟩) := by
  rw [← chunks_eq G B c t ⟨8 + h, by omega⟩]
  unfold negF
  generalize chunks G = x
  pointwise

theorem log1p_exp (x : ℝ) : Ideal.log1p (Ideal.exp (x : EReal)) = (Real.log (1 + Real.exp x) : EReal) := by
  rw [Ideal.exp_coe]
  show Ideal.log (1 + _) = _
  rw [← EReal.coe_one, ← EReal.coe_add, Ideal.log_coe, if_neg (by have := Real.exp_pos x; linarith)]

theorem logF_eq (x : ℝ) (hx : G (ix3 B (token c t) ⟨8 + h, by omega⟩) = (x : EReal)) :
    logF G (ix4 B c h t) = (lsig x : EReal) := by
  have hn : negF G (ix4 B c h t) = ((-x : ℝ) : EReal) := by rw [negF_eq, hx, ← EReal.coe_neg]
  generalize hg : negF G = y at hn
  pointwise [logF, hg, zero4, zero0]
  simp only [hn]
  rw [if_neg (by simp)]
  show -(max ((-x : ℝ) : EReal) 0 + Ideal.log1p (Ideal.exp (-(max ((-x : ℝ) : EReal) (-((-x : ℝ) : EReal)))))) = _
  rw [← EReal.coe_neg (-x), ← coe_max, ← EReal.coe_neg (max _ _), log1p_exp, ← EReal.coe_zero, ← coe_max, ← EReal.coe_add, ← EReal.coe_neg]
  rfl

end Prep
end MlstmScan.Kernel
-- ==== Proof.Scan.KHolds.lean ====
/- A chunk of the kernel, on the arrays that the host prepares: the outputs of its tokens, and the state that it leaves
   for the next chunk. -/
module

public import proofs.«01_k».proof.Proof.Scan.KBlk
public import proofs.«01_k».proof.Proof.Scan.KGates
public import proofs.«01_k».proof.Proof.Scan.KChunk

@[expose] public section

set_option maxRecDepth 16384

noncomputable section

namespace MlstmScan.Kernel

open Idealize.ShloMosaic Cert.KernelIdeal Cert.KernelIdeal.Gen

/-- The arrays that the kernel's pipeline reads, for the scan in direction `d`, over the reals. -/
structure Prepared (X : Given) (d : Bool) (q k : Vec Ideal S8x4096x512 .bf16) (v : Vec Ideal S8x4096x1024 .bf16)
    (G : FVec Ideal S8x4096x16 .f32) (M : IVec S256x256 1) : Prop where
  hq : ∀ B τ u, q (ix3 B τ u) = (X.q B τ u : EReal)
  hk : ∀ B τ u, k (ix3 B τ u) = ((X.k B τ u * (1 / 8) : ℝ) : EReal)
  hv : ∀ B τ u, v (ix3 B τ u) = (X.v B τ u : EReal)
  hG : ∀ B τ (s : Fin 2) (h : Fin 8), G (ix3 B τ ⟨8 * s + h, by omega⟩) = (X.gate d B h s τ : EReal)
  hM : Orders M (order d)

variable {X : Given} {d : Bool} {q k : Vec Ideal S8x4096x512 .bf16} {v : Vec Ideal S8x4096x1024 .bf16}
  {G : FVec Ideal S8x4096x16 .f32} {M : IVec S256x256 1} (P : Prepared X d q k v G M)
  {x : Blocks} {B : Fin 8} {cc : Fin 16} (R : Reads x q k v (Prep.rows G M) (Prep.cols G M) B cc)

theorem div_log2 (r : ℝ) : Ideal.div (r : EReal) (Prep.log2 ix0) = ((r / Real.log 2 : ℝ) : EReal) := by
  rw [Prep.log2_eq, Ideal.div_coe (Real.log_pos one_lt_two).ne', ← EReal.coe_mul, mul_one_div]

include P R in
theorem exists_holds (p : Fin 4) (b : Fin 2) : ∃ μ ν, Holds x (order d) p b (X.L d B (headOf p b)) (X.I d B (headOf p b))
    (X.qs d B (headOf p b)) (X.ks d B (headOf p b)) (readBefore d cc) μ ν := by
  have hv : (headOf p b).val = 2 * p.val + b.val := rfl
  have hL : ∀ t, Prep.logF G (ix4 B cc (headOf p b) t) = (X.L d B (headOf p b) (readBefore d cc + order d t) : EReal) := fun t => by
    rw [Given.L, along_chunk]
    exact Prep.logF_eq G B cc (headOf p b) t _ (P.hG B (token cc t) 1 (headOf p b))
  have hI : ∀ t, Prep.inGate G (ix4 B cc (headOf p b) t) = (X.I d B (headOf p b) (readBefore d cc + order d t) : EReal) := fun t => by
    rw [Given.I, along_chunk, Prep.inGate_eq]
    rw [← P.hG B (token cc t) 0 (headOf p b)]
    congr 2
    exact Fin.ext (by show (headOf p b).val = 8 * 0 + (headOf p b).val; omega)
  obtain ⟨μ, hμ1, hμ2⟩ := Prep.exists_most P.hM hL hI
  choose ν hν1 hν2 using Prep.exists_top P.hM hL hI
  refine ⟨μ, ν, ?_, ?_, ?_, ?_, ?_, ?_, ?_, ?_, hμ2, hν2⟩
  · intro t a
    rw [R.q, Given.qs, along_chunk, ← P.hq]
    congr 2
    exact Fin.ext (by show 128 * p.val + (64 * b.val + a.val) = 64 * (headOf p b).val + a.val; omega)
  · intro t a
    rw [R.k, Given.ks, along_chunk, ← P.hk]
    congr 2
    exact Fin.ext (by show 128 * p.val + (64 * b.val + a.val) = 64 * (headOf p b).val + a.val; omega)
  · exact fun t => by rw [R.rows, Prep.rows_one, Prep.rel_eq P.hM hL hI, div_log2]
  · exact fun t => by rw [R.rows, Prep.rows_two, Prep.total_eq hL, div_log2]
  · exact fun t => by rw [R.rows, Prep.rows_three, hμ1, div_log2]
  · exact fun t => by rw [R.cols, Prep.cols_one, hν1, ← EReal.coe_neg, div_log2]
  · exact fun t => by rw [R.cols, Prep.cols_two, Prep.run_eq P.hM hL, ← EReal.coe_neg, div_log2]
  · intro t
    rw [R.cols, Prep.cols_three, Prep.arrive_eq P.hM hL hI, hμ1, ← EReal.coe_sub, Ideal.exp_coe]
    congr 2
    ring

include P R in
theorem values_eq (h : Fin 8) (e : Fin 128) (j : Fin 256) : x.v (ix3 0 j (colV h e))
    = (X.vs d B h e (readBefore d cc + order d j) : EReal) := by
  rw [R.v, Given.vs, along_chunk, P.hv]
  rfl

/-- The carried state is that of the scan after `n` tokens, of every head. -/
structure StateAt (X : Given) (d : Bool) (B : Fin 8) (n : ℕ) (s : Carried) : Prop where
  hm : ∀ h l, s.m (ix2 h l) = (((decay (X.L d B h) n + peak (X.L d B h) (X.I d B h) n) / Real.log 2 : ℝ) : EReal)
  hC : ∀ p b a (e : Fin 128), pairOf s.C p (ix3 0 (lane b a) (colC e))
    = (state (X.L d B (headOf p b)) (X.I d B (headOf p b)) (X.ks d B (headOf p b) a) (X.vs d B (headOf p b) e) n : EReal)
  hN : ∀ p b a (e : Fin 128), pairOf s.C p (ix3 0 (lane b a) (colN e))
    = (state (X.L d B (headOf p b)) (X.I d B (headOf p b)) (X.ks d B (headOf p b) a) (fun _ => 1) n : EReal)

/-- The state after a chunk. -/
def next (A : Blocks) (s : Carried) : Carried := ⟨stateBlock (between A s), peakNext A s.m⟩

theorem pairOf_stateBlock (F : Fin 4 → Vec Ideal S1x128x256 .f32) (p : Fin 4) : pairOf (stateBlock F) p = F p := by
  refine funext fun y => ?_
  have h0 : (y 0).val = 0 := Nat.lt_one_iff.1 (y 0).isLt
  show F _ (ix3 0 _ _) = F p y
  have h1 : ∀ u : Fin 4, u.val = p.val → F u = F p := fun u e => congrArg F (Fin.ext e)
  refine (congrFun (h1 _ ?_) _).trans (congrArg (F p) ?_)
  · show p.val + 1 * (y 0).val = p.val
    omega
  · refine Eq.trans ?_ (eq_ix3 y).symm
    congr 1
    · exact Fin.ext (by show 0 = (y 0).val; omega)
    · exact Fin.ext (by show 0 + 1 * (y 1).val = (y 1).val; omega)
    · exact Fin.ext (by show 0 + 1 * (y 2).val = (y 2).val; omega)

theorem secondOut_eq (A A' : Blocks) (seen : IVec S256x256 1) (s : Carried) (p : Fin 4) (b : Fin 2) :
    secondOut A A' seen s p b = firstOut A' seen (next A s) p b := by
  unfold secondOut firstOut next
  dsimp only
  rw [pairOf_stateBlock]

variable {n : ℕ} {s : Carried} (hn : readBefore d cc = n) (S : StateAt X d B n s)

include P R hn S in
theorem firstOut_eq (p : Fin 4) (b : Fin 2) (t : Fin 256) (e : Fin 128) : firstOut x M s p b (ix3 0 t e)
    = (X.out d B (headOf p b) e (place d (token cc t)) : EReal) := by
  subst hn
  obtain ⟨μ, ν, H⟩ := exists_holds P R p b
  rw [place_token]
  exact headOut_eq H P.hM (S.hm _) (values_eq P R _ e) (fun a => S.hC p b a e) (fun a => S.hN p b a e) t

include P R hn S in
theorem next_state : StateAt X d B (n + 256) (next x s) := by
  subst hn
  refine ⟨fun h l => ?_, fun p b a e => ?_, fun p b a e => ?_⟩
  · obtain ⟨p, b, rfl⟩ : ∃ p b, h = headOf p b := ⟨⟨h / 2, by omega⟩, ⟨h % 2, by omega⟩, Fin.ext (by show h.val = 2 * (h.val / 2) + h.val % 2; omega)⟩
    obtain ⟨μ, ν, H⟩ := exists_holds P R p b
    exact peakNext_eq H (S.hm _) l
  · obtain ⟨μ, ν, H⟩ := exists_holds P R p b
    unfold next
    dsimp only
    rw [pairOf_stateBlock]
    exact stateNext_eq H (S.hm _) (fun j => (vOnes_value _ j e).trans (values_eq P R _ e j)) (fun a => S.hC p b a e) a
  · obtain ⟨μ, ν, H⟩ := exists_holds P R p b
    unfold next
    dsimp only
    rw [pairOf_stateBlock]
    exact stateNext_eq H (S.hm _) (fun j => vOnes_one _ j e) (fun a => S.hN p b a e) a

end MlstmScan.Kernel
-- ==== Proof.Scan.Inputs.lean ====
/- What it is for the programs' arguments to be real numbers, and the arrays that the two scans give. -/
module

public import proofs.«01_k».proof.Proof.Scan.Seqs
public import Idealize.ShloMosaic.Lib.Pointwise

@[expose] public section

noncomputable section

namespace MlstmScan

open Idealize.ShloMosaic

/-- The arguments are the real numbers of `X`. -/
structure Given.Are (X : Given) (q k : FVec Ideal ⟨3, ![8, 4096, 512]⟩ .f32) (v : FVec Ideal ⟨3, ![8, 4096, 1024]⟩ .f32)
    (g : FVec Ideal ⟨3, ![8, 4096, 32]⟩ .f32) : Prop where
  hq : ∀ B τ u, q (ix3 B τ u) = (X.q B τ u : EReal)
  hk : ∀ B τ u, k (ix3 B τ u) = (X.k B τ u : EReal)
  hv : ∀ B τ u, v (ix3 B τ u) = (X.v B τ u : EReal)
  hg : ∀ B τ u, g (ix3 B τ u) = (X.g B τ u : EReal)

/-- The outputs of the scan in direction `d`: token by token, the heads side by side. -/
def Given.result (X : Given) (d : Bool) : FVec Ideal ⟨3, ![8, 4096, 1024]⟩ .f32 := fun y =>
  (X.out d (y 0) ⟨(y 2).val / 128, Nat.div_lt_of_lt_mul (y 2).isLt⟩ ⟨(y 2).val % 128, Nat.mod_lt _ (by decide)⟩ (place d (y 1)) : EReal)

theorem eighth : Ideal.ofBits .f32 0x3E000000#32 = ((1 / 8 : ℝ) : EReal) := by
  simp only [Ideal.ofBits, Ideal.ieee]
  simp
  rw [← EReal.coe_mul]
  norm_num

end MlstmScan
-- ==== Proof.Scan.KRun.lean ====
/- The kernel's run over its grid: the state carried along a row, and the two results. -/
module

public import proofs.«01_k».proof.Proof.Scan.KHolds
public import proofs.«01_k».proof.Proof.Scan.Inputs

@[expose] public section

set_option maxRecDepth 16384

noncomputable section

namespace MlstmScan.Kernel

open Idealize.ShloMosaic Cert.KernelIdeal Cert.KernelIdeal.Gen Idealize.ShloMosaic.TcCoe Idealize.SL.Sem

theorem orders_up : Orders Prep.maskUp (order false) := by
  intro t j
  pointwise [Prep.maskUp]
  rw [WordCmp.cmpi_sle_ofNat (by omega) (by omega)]
  show BitVec.ofBool (decide (j.val ≤ t.val)) = if j ≤ t then 1#1 else 0#1
  by_cases h : j.val ≤ t.val
  · rw [if_pos (show j ≤ t from h)]; simp [h]
  · rw [if_neg (show ¬ j ≤ t from h)]; simp [h]

theorem orders_down : Orders Prep.maskDown (order true) := by
  intro t j
  pointwise [Prep.maskDown]
  rw [WordCmp.cmpi_sge_ofNat (by omega) (by omega)]
  have e : (order true j ≤ order true t) ↔ t.val ≤ j.val := by
    show 256 - (j.val + 1) ≤ 256 - (t.val + 1) ↔ _
    omega
  by_cases h : t.val ≤ j.val
  · rw [if_pos (e.2 h)]; simp [h]
  · rw [if_neg (mt e.1 h)]; simp [h]

theorem seenUp_eq : seenUp = Prep.maskUp := by
  funext y
  rw [eq_ix2 y]
  pointwise [seenUp, Prep.maskUp]

theorem seenDown_eq : seenDown = Prep.maskDown := by
  funext y
  rw [eq_ix2 y]
  pointwise [seenDown, Prep.maskDown]

variable (m : (ℓ : Loc nD τ sig) → Buf (Elt Ideal) ℓ) (c : Dev nD) {X : Given}
  (hX : X.Are (m (c, Proc.tc.devRef main_arg0)) (m (c, Proc.tc.devRef main_arg1)) (m (c, Proc.tc.devRef main_arg2)) (m (c, Proc.tc.devRef main_arg3)))

include hX in
theorem prepared_fw : Prepared X false (V m c main_v106) (V m c main_v109) (V m c main_v110) (gatesFw m c) Prep.maskUp where
  hq B τ u := by
    rw [V_q, ← hX.hq]
    pointwise
  hk B τ u := by
    rw [V_k, EReal.coe_mul, ← hX.hk, ← eighth]
    pointwise
  hv B τ u := by
    rw [V_v, ← hX.hv]
    pointwise
  hG B τ s h := by
    unfold Given.gate
    rw [← hX.hg]
    pointwise [gatesFw]
    congr 2
    exact Fin.ext (by simp)
  hM := orders_up

include hX in
theorem prepared_bw : Prepared X true (V m c main_v106) (V m c main_v109) (V m c main_v110) (gatesBw m c) Prep.maskDown where
  hq := (prepared_fw m c hX).hq
  hk := (prepared_fw m c hX).hk
  hv := (prepared_fw m c hX).hv
  hG B τ s h := by
    unfold Given.gate
    rw [← hX.hg]
    pointwise [gatesBw]
    congr 2
    exact Fin.ext (by simp; omega)
  hM := orders_down

theorem start_zero (d : Bool) (B : Fin 8) (s : Carried) (hC : ∀ y, s.C y = 0) (hm : ∀ y, s.m y = 0) : StateAt X d B 0 s where
  hm h l := by simp [hm, decay, peak]
  hC p b a e := by
    show s.C _ = _
    simp [hC, state]
  hN p b a e := by
    show s.C _ = _
    simp [hC, state]

/-- What two chunks leave is the state that the point leaves. -/
theorem next_next (A A' : Blocks) (s : Carried) :
    next A' (next A s) = ⟨stateBlock (fun p => stateNext A' (peakNext A s.m) p (between A s p)), peakNext A' (peakNext A s.m)⟩ := by
  unfold next between
  simp only [pairOf_stateBlock]

theorem startFw_succ (t t' : Fin cfg0.N) (ht : t.val = t'.val + 1) (h : t.val % 8 ≠ 0) :
    startFw m c t = next (fwUpper m c t') (next (fwLower m c t') (startFw m c t')) := by
  obtain ⟨-, h1, h2⟩ := point_fw m c t'
  obtain ⟨t, hlt⟩ := t
  obtain rfl : t = t'.val + 1 := ht
  rw [next_next, ← h1, ← h2]
  unfold startFw
  exact if_neg h

theorem startBw_succ (t t' : Fin cfg0.N) (ht : t.val = t'.val + 1) (h : t.val % 8 ≠ 0) :
    startBw m c t = next (bwLower m c t') (next (bwUpper m c t') (startBw m c t')) := by
  obtain ⟨-, h1, h2⟩ := point_bw m c t'
  obtain ⟨t, hlt⟩ := t
  obtain rfl : t = t'.val + 1 := ht
  rw [next_next, ← h1, ← h2]
  unfold startBw
  exact if_neg h

include hX

theorem fw_after (t : Fin cfg0.N) (B : Fin 8) (i : ℕ) (ht : t.val = 8 * B + i) (hi : i < 8) (S : StateAt X false B (512 * i) (startFw m c t)) :
    StateAt X false B (512 * i + 256) (next (fwLower m c t) (startFw m c t)) := by
  have hB : row t = B := Fin.ext (by show t.val / 8 = B.val; omega)
  have R := fwLower_reads m c t
  rw [V_rows_fw, V_cols_fw, hB] at R
  exact next_state (prepared_fw m c hX) R (by show 256 * (2 * (t.val % 8)) = 512 * i; omega) S

theorem fw_state (B : Fin 8) (i : ℕ) : i < 8 → ∀ t : Fin cfg0.N, t.val = 8 * B + i → StateAt X false B (512 * i) (startFw m c t) := by
  induction i with
  | zero =>
    intro _ t ht
    have h0 : startFw m c t = ⟨k0_pay3 (F := Ideal), k0_pay5 (F := Ideal)⟩ := if_pos (by omega)
    rw [h0]
    exact start_zero false B _ (fun y => by pointwise [k0_pay3]) (fun y => by pointwise [k0_pay5])
  | succ i ih =>
    intro hi t ht
    have hN : t.val < 64 := t.isLt
    have hlt : t.val - 1 < cfg0.N := Nat.lt_of_le_of_lt (Nat.sub_le _ _) t.isLt
    have S := ih (by omega) ⟨t.val - 1, hlt⟩ (by show t.val - 1 = _; omega)
    have S' := fw_after m c hX ⟨t.val - 1, hlt⟩ B i (by show t.val - 1 = _; omega) (by omega) S
    rw [startFw_succ m c t ⟨t.val - 1, hlt⟩ (by show t.val = t.val - 1 + 1; omega) (by omega)]
    have hB : row ⟨t.val - 1, hlt⟩ = B := Fin.ext (by show (t.val - 1) / 8 = B.val; omega)
    have R := fwUpper_reads m c ⟨t.val - 1, hlt⟩
    rw [V_rows_fw, V_cols_fw, hB] at R
    exact next_state (prepared_fw m c hX) R (by show 256 * (2 * ((t.val - 1) % 8) + 1) = 512 * i + 256; omega) S'

theorem bw_after (t : Fin cfg0.N) (B : Fin 8) (i : ℕ) (ht : t.val = 8 * B + i) (hi : i < 8) (S : StateAt X true B (512 * i) (startBw m c t)) :
    StateAt X true B (512 * i + 256) (next (bwUpper m c t) (startBw m c t)) := by
  have hB : row t = B := Fin.ext (by show t.val / 8 = B.val; omega)
  have R := bwUpper_reads m c t
  rw [V_rows_bw, V_cols_bw, hB] at R
  exact next_state (prepared_bw m c hX) R (by show 256 * (15 - (2 * (7 - t.val % 8) + 1)) = 512 * i; omega) S

theorem bw_state (B : Fin 8) (i : ℕ) : i < 8 → ∀ t : Fin cfg0.N, t.val = 8 * B + i → StateAt X true B (512 * i) (startBw m c t) := by
  induction i with
  | zero =>
    intro _ t ht
    have h0 : startBw m c t = ⟨k0_pay4 (F := Ideal), k0_pay6 (F := Ideal)⟩ := if_pos (by omega)
    rw [h0]
    exact start_zero true B _ (fun y => by pointwise [k0_pay4]) (fun y => by pointwise [k0_pay6])
  | succ i ih =>
    intro hi t ht
    have hN : t.val < 64 := t.isLt
    have hlt : t.val - 1 < cfg0.N := Nat.lt_of_le_of_lt (Nat.sub_le _ _) t.isLt
    have S := ih (by omega) ⟨t.val - 1, hlt⟩ (by show t.val - 1 = _; omega)
    have S' := bw_after m c hX ⟨t.val - 1, hlt⟩ B i (by show t.val - 1 = _; omega) (by omega) S
    rw [startBw_succ m c t ⟨t.val - 1, hlt⟩ (by show t.val = t.val - 1 + 1; omega) (by omega)]
    have hB : row ⟨t.val - 1, hlt⟩ = B := Fin.ext (by show (t.val - 1) / 8 = B.val; omega)
    have R := bwLower_reads m c ⟨t.val - 1, hlt⟩
    rw [V_rows_bw, V_cols_bw, hB] at R
    exact next_state (prepared_bw m c hX) R (by show 256 * (15 - 2 * (7 - (t.val - 1) % 8)) = 512 * i + 256; omega) S'

end MlstmScan.Kernel
-- ==== Proof.Scan.KFinal.lean ====
/- The kernel's two results, as arrays. -/
module

public import proofs.«01_k».proof.Proof.Scan.KRun

@[expose] public section

set_option maxRecDepth 16384

noncomputable section

namespace MlstmScan.Kernel

open Idealize.ShloMosaic Cert.KernelIdeal Cert.KernelIdeal.Gen Idealize.ShloMosaic.TcCoe Idealize.SL.Sem

/-- A point's outputs at an index of the result that its block holds. -/
theorem outBlock_result {X : Given} {d : Bool} {B : Fin 8} {cc : Fin 2 → Fin 16} {i : ℕ} (hc : ∀ g, (cc g).val = 2 * i + g.val)
    (F : Fin 2 → Fin 4 → Fin 2 → Vec Ideal S1x256x128 .f32)
    (hF : ∀ g p b r e, F g p b (ix3 0 r e) = (X.out d B (headOf p b) e (place d (token (cc g) r)) : EReal))
    (y : S1x512x1024.Idx) (z : S8x4096x1024.Idx) (h0 : (z 0).val = B.val) (h1 : (z 1).val = 512 * i + (y 1).val) (h2 : (z 2).val = (y 2).val) :
    outBlock F y = X.result d z := by
  have y1 : (y 1).val < 512 := (y 1).isLt
  have y2 : (y 2).val < 1024 := (y 2).isLt
  unfold outBlock Given.result
  rw [hF]
  have e0 : (z 0 : Fin 8) = B := Fin.ext h0
  have e1 : token (cc ⟨(y 1).val / 256, by omega⟩) ⟨(y 1).val % 256, by omega⟩ = (z 1 : Fin 4096) := Fin.ext (by
    show 256 * (cc ⟨(y 1).val / 256, by omega⟩).val + (y 1).val % 256 = (z 1).val
    rw [hc]
    show 256 * (2 * i + (y 1).val / 256) + (y 1).val % 256 = (z 1).val
    omega)
  have e2 : headOf ⟨(y 2).val / 256, by omega⟩ ⟨(y 2).val / 128 % 2, by omega⟩ = (⟨(z 2).val / 128, Nat.div_lt_of_lt_mul (z 2).isLt⟩ : Fin 8) := Fin.ext (by
    show 2 * ((y 2).val / 256) + (y 2).val / 128 % 2 = (z 2).val / 128
    omega)
  have e3 : (⟨(y 2).val % 128, by omega⟩ : Fin 128) = ⟨(z 2).val % 128, by omega⟩ := Fin.ext (by show (y 2).val % 128 = (z 2).val % 128; omega)
  rw [e0, ← e1, ← e2, ← e3]

variable (m : (ℓ : Loc nD τ sig) → Buf (Elt Ideal) ℓ) (c : Dev nD) {X : Given}
  (hX : X.Are (m (c, Proc.tc.devRef main_arg0)) (m (c, Proc.tc.devRef main_arg1)) (m (c, Proc.tc.devRef main_arg2)) (m (c, Proc.tc.devRef main_arg3)))

include hX

theorem fw_point (t : Fin cfg0.N) (g : Fin 2) (p : Fin 4) (b : Fin 2) (r : Fin 256) (e : Fin 128) :
    (![firstOut (fwLower m c t) seenUp (startFw m c t), secondOut (fwLower m c t) (fwUpper m c t) seenUp (startFw m c t)] : Fin 2 → _) g p b (ix3 0 r e)
      = (X.out false (row t) (headOf p b) e (place false (token (![fwLo t, fwHi t] g) r)) : EReal) := by
  have hN : t.val < 64 := t.isLt
  have S := fw_state m c hX (row t) (t.val % 8) (by omega) t (by show t.val = 8 * (t.val / 8) + t.val % 8; omega)
  have R := fwLower_reads m c t
  have R' := fwUpper_reads m c t
  rw [V_rows_fw, V_cols_fw] at R R'
  rw [seenUp_eq]
  match g with
  | 0 => exact firstOut_eq (prepared_fw m c hX) R (by show 256 * (2 * (t.val % 8)) = 512 * (t.val % 8); omega) S p b r e
  | 1 =>
    show secondOut _ _ _ _ _ _ _ = _
    rw [secondOut_eq]
    exact firstOut_eq (prepared_fw m c hX) R' (by show 256 * (2 * (t.val % 8) + 1) = 512 * (t.val % 8) + 256; omega)
      (fw_after m c hX t (row t) (t.val % 8) (by show t.val = 8 * (t.val / 8) + t.val % 8; omega) (by omega) S) p b r e

theorem bw_point (t : Fin cfg0.N) (g : Fin 2) (p : Fin 4) (b : Fin 2) (r : Fin 256) (e : Fin 128) :
    (![secondOut (bwUpper m c t) (bwLower m c t) seenDown (startBw m c t), firstOut (bwUpper m c t) seenDown (startBw m c t)] : Fin 2 → _) g p b (ix3 0 r e)
      = (X.out true (row t) (headOf p b) e (place true (token (![bwLo t, bwHi t] g) r)) : EReal) := by
  have hN : t.val < 64 := t.isLt
  have S := bw_state m c hX (row t) (t.val % 8) (by omega) t (by show t.val = 8 * (t.val / 8) + t.val % 8; omega)
  have R := bwUpper_reads m c t
  have R' := bwLower_reads m c t
  rw [V_rows_bw, V_cols_bw] at R R'
  rw [seenDown_eq]
  match g with
  | 1 => exact firstOut_eq (prepared_bw m c hX) R (by show 256 * (15 - (2 * (7 - t.val % 8) + 1)) = 512 * (t.val % 8); omega) S p b r e
  | 0 =>
    show secondOut _ _ _ _ _ _ _ = _
    rw [secondOut_eq]
    exact firstOut_eq (prepared_bw m c hX) R' (by show 256 * (15 - 2 * (7 - t.val % 8)) = 512 * (t.val % 8) + 256; omega)
      (bw_after m c hX t (row t) (t.val % 8) (by show t.val = 8 * (t.val / 8) + t.val % 8; omega) (by omega) S) p b r e

theorem result_fw : (dats m 0 c).arrAt 10 cfg0.N = X.result false := by
  refine (dats m 0 c).arrAt_eq_of_covers 10 _ (by decide +kernel) fun t hf y => ?_
  rw [after0_10, (point_fw m c t).1]
  refine outBlock_result (i := t.val % 8) (cc := ![fwLo t, fwHi t]) (fun g => by match g with | 0 => rfl | 1 => rfl) _ (fw_point m c hX t) _ _ ?_ ?_ ?_
  · blk_simp [index_fw t]
    rfl
  · blk_simp [index_fw t]
    show t.val % 8 * 512 + (y 1).val = 512 * (t.val % 8) + (y 1).val
    omega
  · blk_simp [index_fw t]

theorem result_bw : (dats m 0 c).arrAt 11 cfg0.N = X.result true := by
  refine (dats m 0 c).arrAt_eq_of_covers 11 _ (by decide +kernel) fun t hf y => ?_
  rw [after0_11, (point_bw m c t).1]
  refine outBlock_result (i := 7 - t.val % 8) (cc := ![bwLo t, bwHi t]) (fun g => by match g with | 0 => rfl | 1 => rfl) _ (bw_point m c hX t) _ _ ?_ ?_ ?_
  · blk_simp [index_bw t]
    rfl
  · blk_simp [index_bw t]
    show (7 - t.val % 8) * 512 + (y 1).val = 512 * (7 - t.val % 8) + (y 1).val
    omega
  · blk_simp [index_bw t]

end MlstmScan.Kernel
-- ==== Proof.Scan.RefChunk.lean ====
/- One trip of the loop of the reference, at one sequence and head: 64 tokens read with the state of the tokens before them,
   their outputs, and the state that the trip hands on. -/
module
public import proofs.«01_k».proof.Proof.Gen.ReferenceIdeal.Step
public import Idealize.ShloMosaic.Lib.Pointwise
public import Idealize.ShloMosaic.Lib.WordCmp
public import proofs.«01_k».proof.Proof.Scan.Closed
public import proofs.«01_k».proof.Proof.Scan.Extended
@[expose] public section
set_option maxRecDepth 16384
noncomputable section
namespace MlstmScan
open Idealize.ShloMosaic Cert.ReferenceIdeal Cert.ReferenceIdeal.Gen Cert.ReferenceIdeal.Step

theorem coe_max (x y : ℝ) : ((max x y : ℝ) : EReal) = max (x : EReal) y :=
  (EReal.coe_strictMono.monotone.map_max)

/-- Minus infinity, as the programs write it. -/
theorem ofBits_bot : Ideal.ofBits .f32 4286578688#32 = ⊥ := by
  simp [Ideal.ofBits, Ideal.ieee]

/-- A weighted sum over its floored weight, as both programs write it. -/
theorem div_floor (x y z : ℝ) : Ideal.div (x : EReal) (max (FloatOps.absf (F := Ideal) (φ := .f32) (y : EReal)) (Ideal.exp (-(z : EReal))))
    = ((x / max |y| (Real.exp (-z)) : ℝ) : EReal) := by
  have hpos : max |y| (Real.exp (-z)) ≠ 0 := (lt_of_lt_of_le (Real.exp_pos _) (le_max_right _ _)).ne'
  rw [Ideal.absf_def, ← EReal.coe_neg, ← EReal.coe_neg, Ideal.exp_coe, ← coe_max, ← coe_max, ← abs_eq_max_neg,
    Ideal.div_coe hpos, ← EReal.coe_mul, mul_one_div]

theorem select_sge {α : Type} {a b : ℕ} (ha : a < 4096) (hb : b < 4096) (x y : α) :
    Scalar.select (IntOp.cmpi .sge (BitVec.ofNat 32 a) (BitVec.ofNat 32 b)) x y = if b ≤ a then x else y := by
  rw [WordCmp.cmpi_sge_ofNat (by omega) (by omega)]
  by_cases h : b ≤ a <;> simp [Scalar.select, h]

variable {j : ℕ} {s : State Ideal} {i : Fin 16} {h : Fin 8} {L I : ℕ → ℝ} {q k : Fin 64 → ℕ → ℝ} {v : Fin 128 → ℕ → ℝ}
  {n : ℕ}

/-- What a trip of the loop holds at one sequence and head, when the tokens before token `n` have been read. -/
structure Before (j : ℕ) (s : State Ideal) (i : Fin 16) (h : Fin 8) (L I : ℕ → ℝ) (q k : Fin 64 → ℕ → ℝ)
    (v : Fin 128 → ℕ → ℝ) (n : ℕ) : Prop where
  hq : ∀ t a, b5 j s (ix4 i h t a) = (q a (n + t) : EReal)
  hk : ∀ t a, b11 j s (ix4 i h t a) = (k a (n + t) : EReal)
  hv : ∀ t e, b17 j s (ix4 i h t e) = (v e (n + t) : EReal)
  hf : ∀ t, b22 j s (ix3 i h t) = (L (n + t) : EReal)
  hi : ∀ t, b27 j s (ix3 i h t) = (I (n + t) : EReal)
  hc : ∀ a e, s.main_v57_6 (ix4 i h a e) = (state L I (k a) (v e) n : EReal)
  hn : ∀ a, s.main_v57_7 (ix3 i h a) = (state L I (k a) (fun _ => 1) n : EReal)
  hm : s.main_v57_8 (ix2 i h) = ((decay L n + peak L I n : ℝ) : EReal)

variable (B : Before j s i h L I q k v n)
include B

theorem cumsum_eq (t : Fin 64) : b30 j s (ix3 i h t) = ((decay L (n + t + 1) - decay L n : ℝ) : EReal) := by
  unfold b30
  rw [running_sum rfl (b22 j s) (b29 j s) ?_ _ _ i h t (fun r => (L (n + r) : EReal)) fun r => B.hf r]
  · rw [sum_coe, decay_seen, sum_seen (fun r => L (n + r))]
    simp
  · intro u
    show Ideal.ofBits .f32 0#32 = 0
    simp

theorem total_eq : b32 j s (ix2 i h) = ((decay L (n + 64) - decay L n : ℝ) : EReal) := by
  have e := cumsum_eq B 63
  pointwise [b32, b31]
  exact e

theorem mask_eq (t x : Fin 64) : b56 j s (ix4 i h t x)
    = if x ≤ t then ((decay L (n + t + 1) + score L I (n + x) : ℝ) : EReal) else ⊥ := by
  pointwise [b56, b55, b54, b53, b52, b51, b50, b49, b48, b47, b46, b45, b44, b43, b42, b41, b40, b39, b38, b37, b36, b35, b34, b33]
  rw [cumsum_eq B, cumsum_eq B, B.hi, ofBits_bot, ← EReal.coe_sub, ← EReal.coe_add]
  rw [show IntOp.addi (BitVec.ofNat 32 t.val) 0#32 = BitVec.ofNat 32 t.val from BitVec.add_zero _,
    select_sge (by omega) (by omega)]
  by_cases hx : x ≤ t
  · rw [if_pos hx, if_pos (show x.val ≤ t.val from hx)]
    unfold score
    simp only [Scalar.select]
    rw [if_pos (by decide)]
    congr 1
    ring
  · rw [if_neg hx, if_neg (show ¬ x.val ≤ t.val from hx)]
    simp [Scalar.select]

theorem max_eq (t : Fin 64) : b61 j s (ix3 i h t) = Finset.univ.fold max ⊥ (fun x => b56 j s (ix4 i h t x)) := by
  pointwise [b61, b60]
  rw [ofBits_bot]
theorem stab_eq (t : Fin 64) :
    b62 j s (ix3 i h t) = ((decay L (n + t + 1) + peak L I (n + t + 1) : ℝ) : EReal) := by
  pointwise [b62, b59, b58, b57]
  rw [cumsum_eq B, B.hm, max_eq B]
  simp only [mask_eq B]
  obtain ⟨μ, h1, h2⟩ := fold_max_mask (fun x => x ≤ t) (fun x : Fin 64 => decay L (n + t + 1) + score L I (n + x)) ⟨t, le_rfl⟩
  rw [h1, peak_seen (μ := μ - decay L (n + t + 1)) fun x => ?_, ← EReal.coe_add, ← coe_max]
  · rw [← max_add_add_left]
    ring_nf
  · rw [sub_le_iff_le_add, h2]
    exact forall₂_congr fun j _ => by rw [add_comm x]; exact add_le_add_iff_left _

theorem weight_eq (t x : Fin 64) : b67 j s (ix4 i h t x)
    = ((if x ≤ t then Real.exp (score L I (n + x) - peak L I (n + t + 1)) else 0 : ℝ) : EReal) := by
  pointwise [b67, b66, b65, b64]
  rw [mask_eq B, stab_eq B]
  split_ifs
  · rw [← EReal.coe_sub, Ideal.exp_coe]
    congr 2
    ring
  · rw [EReal.bot_sub, Ideal.exp_bot, EReal.coe_zero]

theorem inter_eq (t : Fin 64) :
    b70 j s (ix3 i h t) = (Real.exp (peak L I n - peak L I (n + t + 1)) : EReal) := by
  pointwise [b70, b69, b59, b58, b57]
  rw [cumsum_eq B, B.hm, stab_eq B, ← EReal.coe_add, ← EReal.coe_sub, Ideal.exp_coe]
  congr 2
  ring

theorem qk_eq (t x : Fin 64) :
    b68 j s (ix4 i h t x) = (((∑ a, q a (n + t) * k a (n + x)) *
      (if x ≤ t then Real.exp (score L I (n + x) - peak L I (n + t + 1)) else 0) : ℝ) : EReal) := by
  pointwise [b68, b63]
  simp only [B.hq, B.hk, weight_eq B, ← EReal.coe_mul, sum_coe]

theorem num_eq (t : Fin 64) (e : Fin 128) : b76 j s (ix4 i h t e)
    = (readout L I (fun m => ∑ a, q a (n + t) * k a m) (v e) (n + t) : EReal) := by
  pointwise [b76, b75, b74, b73, b72, b71]
  simp only [qk_eq B, inter_eq B, B.hq, B.hv, B.hc, ← EReal.coe_mul, sum_coe, ← EReal.coe_add]
  rw [readout_chunk (fun a => q a (n + t)) k (v e) n 64 t]
  congr 3
  funext x
  split_ifs <;> ring

theorem rowsum_eq (t : Fin 64) : b78 j s (ix3 i h t) = ∑ x, b68 j s (ix4 i h t x) := by
  pointwise [b78, b77]

theorem den_eq (t : Fin 64) : b81 j s (ix3 i h t)
    = (readout L I (fun m => ∑ a, q a (n + t) * k a m) (fun _ => 1) (n + t) : EReal) := by
  pointwise [b81, b80, b79]
  rw [rowsum_eq B]
  simp only [qk_eq B, inter_eq B, B.hq, B.hn, ← EReal.coe_mul, sum_coe, ← EReal.coe_add]
  rw [readout_chunk (fun a => q a (n + t)) k (fun _ => 1) n 64 t]
  congr 3
  funext x
  split_ifs <;> ring

/-- The trip's output. -/
theorem output_eq (t : Fin 64) (e : Fin 128) : b88 j s (ix4 i h t e)
    = (output L I (fun m => ∑ a, q a (n + t) * k a m) (v e) (n + t) : EReal) := by
  pointwise [b88, b87, b86, b85, b84, b83, b82]
  rw [num_eq B, den_eq B, stab_eq B]
  unfold output
  exact div_floor _ _ _

theorem arrive_eq (t : Fin 64) :
    b92 j s (ix3 i h t) = ((decay L (n + 64) + score L I (n + t) : ℝ) : EReal) := by
  pointwise [b92, b91, b90, b89]
  rw [total_eq B, cumsum_eq B, B.hi, ← EReal.coe_sub, ← EReal.coe_add]
  unfold score
  congr 1
  ring

theorem top_eq : b94 j s (ix2 i h) = Finset.univ.fold max ⊥ (fun x => b92 j s (ix3 i h x)) := by
  pointwise [b94, b93]
  rw [ofBits_bot]

theorem exists_top : ∃ μ : ℝ, b94 j s (ix2 i h) = ((decay L (n + 64) + μ : ℝ) : EReal)
    ∧ ∀ x, μ ≤ x ↔ ∀ t : Fin 64, score L I (n + t) ≤ x := by
  obtain ⟨μ, h1, h2⟩ := fold_max_coe (by decide) fun x : Fin 64 => decay L (n + 64) + score L I (n + x)
  refine ⟨μ - decay L (n + 64), ?_, fun x => ?_⟩
  · rw [top_eq B]
    simp only [arrive_eq B]
    rw [h1]
    congr 1
    ring
  · rw [sub_le_iff_le_add, h2]
    exact forall_congr' fun j => by rw [add_comm x]; exact add_le_add_iff_left _

theorem stab_after : b105 j s (ix2 i h) = ((decay L (n + 64) + peak L I (n + 64) : ℝ) : EReal) := by
  obtain ⟨μ, h1, h2⟩ := exists_top B
  pointwise [b105, b104]
  rw [h1, total_eq B, B.hm, ← EReal.coe_add, ← coe_max, peak_chunk h2, ← max_add_add_left]
  congr 2
  ring

theorem old_eq : b108 j s (ix2 i h) = (Real.exp (peak L I n - peak L I (n + 64)) : EReal) := by
  pointwise [b108, b107, b106]
  rw [stab_after B, total_eq B, B.hm, ← EReal.coe_add, ← EReal.coe_sub, Ideal.exp_coe]
  congr 2
  ring

section
variable {μ : ℝ} (h1 : b94 j s (ix2 i h) = ((decay L (n + 64) + μ : ℝ) : EReal))
include h1

theorem new_eq : b110 j s (ix2 i h) = (Real.exp (μ - peak L I (n + 64)) : EReal) := by
  pointwise [b110, b109]
  rw [stab_after B, h1, ← EReal.coe_sub, Ideal.exp_coe]
  congr 2
  ring

theorem local_eq (t : Fin 64) : b98 j s (ix3 i h t) = (Real.exp (score L I (n + t) - μ) : EReal) := by
  pointwise [b98, b97, b96, b95]
  rw [arrive_eq B, h1, ← EReal.coe_sub, Ideal.exp_coe]
  congr 2
  ring
end

/-- The state that the trip hands on. -/
theorem state_after (a : Fin 64) (e : Fin 128) :
    b117 j s (ix4 i h a e) = (state L I (k a) (v e) (n + 64) : EReal) := by
  obtain ⟨μ, h1, h2⟩ := exists_top B
  pointwise [b117, b116, b115, b114, b113, b112, b111, b102, b101, b100, b99]
  simp only [old_eq B, new_eq B h1, local_eq B h1, B.hk, B.hv, B.hc, ← EReal.coe_mul, sum_coe, ← EReal.coe_add]
  rw [state_chunk (k a) (v e) n 64 μ]

/-- The normaliser that the trip hands on. -/
theorem normaliser_after (a : Fin 64) :
    b124 j s (ix3 i h a) = (state L I (k a) (fun _ => 1) (n + 64) : EReal) := by
  obtain ⟨μ, h1, h2⟩ := exists_top B
  pointwise [b124, b123, b122, b121, b120, b119, b118, b103]
  simp only [old_eq B, new_eq B h1, local_eq B h1, B.hk, B.hn, ← EReal.coe_mul, sum_coe, ← EReal.coe_add]
  rw [state_chunk (k a) (fun _ => 1) n 64 μ]
  simp only [mul_one]

end MlstmScan
-- ==== Proof.Scan.RefPrep.lean ====
/- The arrays that the reference's loop reads, at an index: chunk `n` of 64 tokens, the rows of the batch forward and then
   the same rows backward. -/
module

public import proofs.«01_k».proof.Proof.Scan.RefChunk
public import proofs.«01_k».proof.Proof.Scan.Inputs
public import proofs.«01_k».proof.Proof.Gen.ReferenceIdeal.Step

@[expose] public section

set_option maxRecDepth 16384

noncomputable section

namespace MlstmScan

open Idealize.ShloMosaic Cert.ReferenceIdeal Cert.ReferenceIdeal.Gen Cert.ReferenceIdeal.Step

variable (q k : FVec Ideal S8x4096x512 .f32) (v : FVec Ideal S8x4096x1024 .f32) (g : FVec Ideal S8x4096x32 .f32)
  (d : Bool) (B h : Fin 8) (τ : Fin 4096)

theorem heads_q (a : Fin 64) : A_main_v1 (F := Ideal) q k v g (ix4 B h τ a) = q (ix3 B τ ⟨h * 64 + a, by omega⟩) := by
  pointwise [A_main_v1, A_main_v0]

theorem heads_k (a : Fin 64) : A_main_v5 (F := Ideal) q k v g (ix4 B h τ a) = k (ix3 B τ ⟨h * 64 + a, by omega⟩) * Ideal.ofBits .f32 0x3E000000#32 := by
  pointwise [A_main_v5, A_main_v3, A_main_v2, K_main_v4, K_main_cst]

theorem heads_v (e : Fin 128) : A_main_v7 (F := Ideal) q k v g (ix4 B h τ e) = v (ix3 B τ ⟨h * 128 + e, by omega⟩) := by
  pointwise [A_main_v7, A_main_v6]

theorem gate_kind (s : Fin 4) : A_main_v9 (F := Ideal) q k v g (ix4 s B h τ) = g (ix3 B τ ⟨s * 8 + h, by omega⟩) := by
  pointwise [A_main_v9, A_main_v8]

/-! Forward rows and, behind them, the same rows backward. -/

theorem both64_lo (x : FVec Ideal S8x8x4096x64 .f32) (a : Fin 64) :
    concatenate S16x8x4096x64 0 [⟨S8x8x4096x64, x⟩, ⟨S8x8x4096x64, Host.reverse [2] x⟩] concatenates_S8x8x4096x64_S8x8x4096x64_S16x8x4096x64_d0 (ix4 ⟨B, by omega⟩ h τ a)
      = x (ix4 B h τ a) := by
  pointwise

theorem both64_hi (x : FVec Ideal S8x8x4096x64 .f32) (a : Fin 64) :
    concatenate S16x8x4096x64 0 [⟨S8x8x4096x64, x⟩, ⟨S8x8x4096x64, Host.reverse [2] x⟩] concatenates_S8x8x4096x64_S8x8x4096x64_S16x8x4096x64_d0 (ix4 ⟨8 + B, by omega⟩ h τ a)
      = x (ix4 B h (Fin.rev τ) a) := by
  pointwise
  simp

theorem both128_lo (x : FVec Ideal S8x8x4096x128 .f32) (a : Fin 128) :
    concatenate S16x8x4096x128 0 [⟨S8x8x4096x128, x⟩, ⟨S8x8x4096x128, Host.reverse [2] x⟩] concatenates_S8x8x4096x128_S8x8x4096x128_S16x8x4096x128_d0 (ix4 ⟨B, by omega⟩ h τ a)
      = x (ix4 B h τ a) := by
  pointwise

theorem both128_hi (x : FVec Ideal S8x8x4096x128 .f32) (a : Fin 128) :
    concatenate S16x8x4096x128 0 [⟨S8x8x4096x128, x⟩, ⟨S8x8x4096x128, Host.reverse [2] x⟩] concatenates_S8x8x4096x128_S8x8x4096x128_S16x8x4096x128_d0 (ix4 ⟨8 + B, by omega⟩ h τ a)
      = x (ix4 B h (Fin.rev τ) a) := by
  pointwise
  simp

theorem gates_lo (x y : FVec Ideal S8x8x4096 .f32) :
    concatenate S16x8x4096 0 [⟨S8x8x4096, x⟩, ⟨S8x8x4096, Host.reverse [2] y⟩] concatenates_S8x8x4096_S8x8x4096_S16x8x4096_d0 (ix3 ⟨B, by omega⟩ h τ)
      = x (ix3 B h τ) := by
  pointwise

theorem gates_hi (x y : FVec Ideal S8x8x4096 .f32) :
    concatenate S16x8x4096 0 [⟨S8x8x4096, x⟩, ⟨S8x8x4096, Host.reverse [2] y⟩] concatenates_S8x8x4096_S8x8x4096_S16x8x4096_d0 (ix3 ⟨8 + B, by omega⟩ h τ)
      = y (ix3 B h (Fin.rev τ)) := by
  pointwise
  simp

/-- Token `t` of chunk `n` of 64 tokens. -/
def token64 (n t : Fin 64) : Fin 4096 := ⟨n * 64 + t, by omega⟩

theorem split64 (x : FVec Ideal S16x8x4096x64 .f32) (n : Fin 64) (i : Fin 16) (t a : Fin 64) :
    shapeCast S16x8x64x64x64 x shapeCasts_S16x8x4096x64_S16x8x64x64x64 (ix5 i h n t a) = x (ix4 i h (token64 n t) a) := by
  refine shapeCast_apply _ _ _ _ ?_
  rw [Shape.rowMajor_val_four, Shape.rowMajor_val_five]
  show ((i.val * 8 + h.val) * 4096 + (n.val * 64 + t.val)) * 64 + a.val = (((i.val * 8 + h.val) * 64 + n.val) * 64 + t.val) * 64 + a.val
  omega

theorem split128 (x : FVec Ideal S16x8x4096x128 .f32) (n : Fin 64) (i : Fin 16) (t : Fin 64) (e : Fin 128) :
    shapeCast S16x8x64x64x128 x shapeCasts_S16x8x4096x128_S16x8x64x64x128 (ix5 i h n t e) = x (ix4 i h (token64 n t) e) := by
  refine shapeCast_apply _ _ _ _ ?_
  rw [Shape.rowMajor_val_four, Shape.rowMajor_val_five]
  show ((i.val * 8 + h.val) * 4096 + (n.val * 64 + t.val)) * 128 + e.val = (((i.val * 8 + h.val) * 64 + n.val) * 64 + t.val) * 128 + e.val
  omega

theorem swap64 (x : FVec Ideal S16x8x64x64x64 .f32) (n : Fin 64) (i : Fin 16) (t : Fin 64) (a : Fin 64) :
    transpose S64x16x8x64x64 [2, 0, 1, 3, 4] x transposes_S16x8x64x64x64_S64x16x8x64x64_2_0_1_3_4 (ix5 n i h t a) = x (ix5 i h n t a) := by
  pointwise

theorem swap128 (x : FVec Ideal S16x8x64x64x128 .f32) (n : Fin 64) (i : Fin 16) (t : Fin 64) (a : Fin 128) :
    transpose S64x16x8x64x128 [2, 0, 1, 3, 4] x transposes_S16x8x64x64x128_S64x16x8x64x128_2_0_1_3_4 (ix5 n i h t a) = x (ix5 i h n t a) := by
  pointwise

theorem chunk_q (n : Fin 64) (i : Fin 16) (t : Fin 64) (a : Fin 64) : A_main_v52 (F := Ideal) q k v g (ix5 n i h t a)
    = A_main_v11 (F := Ideal) q k v g (ix4 i h (token64 n t) a) :=
  (swap64 h (A_main_v28 (F := Ideal) q k v g) n i t a).trans (split64 h (A_main_v11 (F := Ideal) q k v g) n i t a)

theorem chunk_k (n : Fin 64) (i : Fin 16) (t : Fin 64) (a : Fin 64) : A_main_v53 (F := Ideal) q k v g (ix5 n i h t a)
    = A_main_v13 (F := Ideal) q k v g (ix4 i h (token64 n t) a) :=
  (swap64 h (A_main_v29 (F := Ideal) q k v g) n i t a).trans (split64 h (A_main_v13 (F := Ideal) q k v g) n i t a)

theorem chunk_v (n : Fin 64) (i : Fin 16) (t : Fin 64) (a : Fin 128) : A_main_v54 (F := Ideal) q k v g (ix5 n i h t a)
    = A_main_v15 (F := Ideal) q k v g (ix4 i h (token64 n t) a) :=
  (swap128 h (A_main_v30 (F := Ideal) q k v g) n i t a).trans (split128 h (A_main_v15 (F := Ideal) q k v g) n i t a)

theorem chunk_f (n : Fin 64) (i : Fin 16) (t : Fin 64) : A_main_v55 (F := Ideal) q k v g (ix4 n i h t)
    = A_main_v45 (F := Ideal) q k v g (ix3 i h (token64 n t)) := by
  unfold A_main_v55 A_main_v46 token64
  generalize A_main_v45 (F := Ideal) q k v g = x
  pointwise

theorem chunk_i (n : Fin 64) (i : Fin 16) (t : Fin 64) : A_main_v56 (F := Ideal) q k v g (ix4 n i h t)
    = A_main_v21 (F := Ideal) q k v g (ix3 i h (token64 n t)) := by
  unfold A_main_v56 A_main_v47 token64
  generalize A_main_v21 (F := Ideal) q k v g = x
  pointwise

theorem kind0 : A_main_v17 (F := Ideal) q k v g (ix3 B h τ) = A_main_v9 (F := Ideal) q k v g (ix4 0 B h τ) := by
  unfold A_main_v17 A_main_v16
  generalize A_main_v9 (F := Ideal) q k v g = x
  pointwise

theorem kind1 : A_main_v23 (F := Ideal) q k v g (ix3 B h τ) = A_main_v9 (F := Ideal) q k v g (ix4 1 B h τ) := by
  unfold A_main_v23 A_main_v22
  generalize A_main_v9 (F := Ideal) q k v g = x
  pointwise

theorem kind2 : A_main_v19 (F := Ideal) q k v g (ix3 B h τ) = A_main_v9 (F := Ideal) q k v g (ix4 2 B h τ) := by
  unfold A_main_v19 A_main_v18
  generalize A_main_v9 (F := Ideal) q k v g = x
  pointwise

theorem kind3 : A_main_v25 (F := Ideal) q k v g (ix3 B h τ) = A_main_v9 (F := Ideal) q k v g (ix4 3 B h τ) := by
  unfold A_main_v25 A_main_v24
  generalize A_main_v9 (F := Ideal) q k v g = x
  pointwise

end MlstmScan
-- ==== Proof.Scan.RefVals.lean ====
/- The arrays that the reference's loop reads, over the reals: the sequences of the two scans. -/
module

public import proofs.«01_k».proof.Proof.Scan.RefPrep
public import proofs.«01_k».proof.Proof.Scan.KGates

@[expose] public section

set_option maxRecDepth 16384

noncomputable section

namespace MlstmScan

open Idealize.ShloMosaic Cert.ReferenceIdeal Cert.ReferenceIdeal.Gen Cert.ReferenceIdeal.Step

/-- The row of the joined batch that holds sequence `B` in direction `d`. -/
def joined (d : Bool) (B : Fin 8) : Fin 16 := cond d ⟨8 + B, by omega⟩ ⟨B, by omega⟩

theorem along_token64 (d : Bool) (f : Fin 4096 → ℝ) (n t : Fin 64) : along d f (64 * n + t) = f (place d (token64 n t)) := by
  refine along_lt d f _ _ ?_
  rw [place_place]
  show 64 * n.val + t.val = n.val * 64 + t.val
  omega

section Arrays

variable (q k : FVec Ideal S8x4096x512 .f32) (v : FVec Ideal S8x4096x1024 .f32) (g : FVec Ideal S8x4096x32 .f32)
  (d : Bool) (B h : Fin 8) (τ : Fin 4096)

theorem joined_q (a : Fin 64) : A_main_v11 (F := Ideal) q k v g (ix4 (joined d B) h τ a) = A_main_v1 (F := Ideal) q k v g (ix4 B h (place d τ) a) := by
  unfold A_main_v11 A_main_v10
  generalize A_main_v1 (F := Ideal) q k v g = x
  cases d
  · exact both64_lo B h τ x a
  · exact both64_hi B h τ x a

theorem joined_k (a : Fin 64) : A_main_v13 (F := Ideal) q k v g (ix4 (joined d B) h τ a) = A_main_v5 (F := Ideal) q k v g (ix4 B h (place d τ) a) := by
  unfold A_main_v13 A_main_v12
  generalize A_main_v5 (F := Ideal) q k v g = x
  cases d
  · exact both64_lo B h τ x a
  · exact both64_hi B h τ x a

theorem joined_v (e : Fin 128) : A_main_v15 (F := Ideal) q k v g (ix4 (joined d B) h τ e) = A_main_v7 (F := Ideal) q k v g (ix4 B h (place d τ) e) := by
  unfold A_main_v15 A_main_v14
  generalize A_main_v7 (F := Ideal) q k v g = x
  cases d
  · exact both128_lo B h τ x e
  · exact both128_hi B h τ x e

theorem joined_i : A_main_v21 (F := Ideal) q k v g (ix3 (joined d B) h τ) = A_main_v9 (F := Ideal) q k v g (ix4 (cond d 2 0) B h (place d τ)) := by
  unfold A_main_v21 A_main_v20
  cases d
  · refine Eq.trans ?_ (kind0 q k v g B h τ)
    generalize A_main_v17 (F := Ideal) q k v g = x
    generalize A_main_v19 (F := Ideal) q k v g = y
    exact gates_lo B h τ x y
  · refine Eq.trans ?_ (kind2 q k v g B h (Fin.rev τ))
    generalize A_main_v17 (F := Ideal) q k v g = x
    generalize A_main_v19 (F := Ideal) q k v g = y
    exact gates_hi B h τ x y

theorem joined_f : A_main_v27 (F := Ideal) q k v g (ix3 (joined d B) h τ) = A_main_v9 (F := Ideal) q k v g (ix4 (cond d 3 1) B h (place d τ)) := by
  unfold A_main_v27 A_main_v26
  cases d
  · refine Eq.trans ?_ (kind1 q k v g B h τ)
    generalize A_main_v23 (F := Ideal) q k v g = x
    generalize A_main_v25 (F := Ideal) q k v g = y
    exact gates_lo B h τ x y
  · refine Eq.trans ?_ (kind3 q k v g B h (Fin.rev τ))
    generalize A_main_v23 (F := Ideal) q k v g = x
    generalize A_main_v25 (F := Ideal) q k v g = y
    exact gates_hi B h τ x y

theorem log_gate (i : Fin 16) (x : ℝ) (hx : A_main_v27 (F := Ideal) q k v g (ix3 i h τ) = (x : EReal)) :
    A_main_v45 (F := Ideal) q k v g (ix3 i h τ) = (lsig x : EReal) := by
  unfold A_main_v45 A_main_v44 A_main_v43 A_main_v42 A_main_v41 A_main_v40 A_main_v39 A_main_v38 A_main_v36 A_main_v35 A_main_v33 A_main_v31
  generalize A_main_v27 (F := Ideal) q k v g = y at hx
  pointwise [K_main_v32, K_main_v34, K_main_v37, K_main_cst_0]
  simp only [hx, ← EReal.coe_neg]
  rw [if_neg (by simp)]
  show -(max ((-x : ℝ) : EReal) 0 + Ideal.log1p (Ideal.exp (-(max ((-x : ℝ) : EReal) (-((-x : ℝ) : EReal)))))) = _
  rw [← EReal.coe_neg (-x), ← coe_max, ← EReal.coe_neg (max _ _), Kernel.Prep.log1p_exp, ← EReal.coe_zero, ← coe_max, ← EReal.coe_add, ← EReal.coe_neg]
  rfl

end Arrays

variable {q k : FVec Ideal S8x4096x512 .f32} {v : FVec Ideal S8x4096x1024 .f32} {g : FVec Ideal S8x4096x32 .f32}
  (X : Given) (hX : X.Are q k v g) (d : Bool) (B h : Fin 8) (n t : Fin 64)

include hX

theorem seq_q (a : Fin 64) : A_main_v52 (F := Ideal) q k v g (ix5 n (joined d B) h t a) = (X.qs d B h a (64 * n + t) : EReal) := by
  rw [chunk_q, joined_q, heads_q, hX.hq, Given.qs, along_token64]
  exact congrArg (fun u => (X.q B (place d (token64 n t)) u : EReal)) (Fin.ext (by show h.val * 64 + a.val = 64 * h.val + a.val; omega))

theorem seq_k (a : Fin 64) : A_main_v53 (F := Ideal) q k v g (ix5 n (joined d B) h t a) = (X.ks d B h a (64 * n + t) : EReal) := by
  rw [chunk_k, joined_k, heads_k, hX.hk, eighth, ← EReal.coe_mul, Given.ks, along_token64]
  exact congrArg (fun u => ((X.k B (place d (token64 n t)) u * (1 / 8) : ℝ) : EReal)) (Fin.ext (by show h.val * 64 + a.val = 64 * h.val + a.val; omega))

theorem seq_v (e : Fin 128) : A_main_v54 (F := Ideal) q k v g (ix5 n (joined d B) h t e) = (X.vs d B h e (64 * n + t) : EReal) := by
  rw [chunk_v, joined_v, heads_v, hX.hv, Given.vs, along_token64]
  exact congrArg (fun u => (X.v B (place d (token64 n t)) u : EReal)) (Fin.ext (by show h.val * 128 + e.val = 128 * h.val + e.val; omega))

theorem seq_i : A_main_v56 (F := Ideal) q k v g (ix4 n (joined d B) h t) = (X.I d B h (64 * n + t) : EReal) := by
  rw [chunk_i, joined_i, gate_kind, hX.hg, Given.I, along_token64, Given.gate]
  refine congrArg (fun u => (X.g B (place d (token64 n t)) u : EReal)) (Fin.ext ?_)
  cases d
  · show 0 * 8 + h.val = 16 * 0 + 8 * 0 + h.val
    omega
  · show 2 * 8 + h.val = 16 * 1 + 8 * 0 + h.val
    omega

theorem seq_f : A_main_v55 (F := Ideal) q k v g (ix4 n (joined d B) h t) = (X.L d B h (64 * n + t) : EReal) := by
  rw [chunk_f, Given.L, along_token64, Given.gate]
  refine log_gate q k v g h _ _ _ ?_
  rw [joined_f, gate_kind, hX.hg]
  refine congrArg (fun u => (X.g B (place d (token64 n t)) u : EReal)) (Fin.ext ?_)
  cases d
  · show 1 * 8 + h.val = 16 * 0 + 8 * 1 + h.val
    omega
  · show 3 * 8 + h.val = 16 * 1 + 8 * 1 + h.val
    omega

end MlstmScan
-- ==== Proof.Scan.RefRead.lean ====
/- What one trip of the reference's loop reads, and how the results are read from the outputs of all trips. -/
module

public import proofs.«01_k».proof.Proof.Scan.RefChunk
public import proofs.«01_k».proof.Proof.Scan.Inputs
public import Idealize.ShloMosaic.Lib.DynamicIndex
public import proofs.«01_k».proof.Proof.Gen.ReferenceIdeal.Step

@[expose] public section

set_option maxRecDepth 16384

noncomputable section

namespace MlstmScan

open Idealize.ShloMosaic Cert.ReferenceIdeal Cert.ReferenceIdeal.Gen Cert.ReferenceIdeal.Step

variable (j : Fin 64) (s : State Ideal) (i : Fin 16) (h : Fin 8)

theorem slice64 (x : FVec Ideal S64x16x8x64x64 .f32) (st : Fin 5 → Int) (h0 : st 0 = (j.val : Int)) (h1 : st 1 = 0) (h2 : st 2 = 0) (h3 : st 3 = 0)
    (h4 : st 4 = 0) (hs : S64x16x8x64x64.Slices (fun _ => 0) S1x16x8x64x64) (t : Fin 64) (a : Fin 64) :
    Host.dynamicSlice S1x16x8x64x64 x st hs (ix5 0 i h t a) = x (ix5 j i h t a) := by
  have c0 : Host.clampedStart S64x16x8x64x64 S1x16x8x64x64 hs.1 st 0 = j.val := Host.clampedStart_of_le hs.1 st 0 j.val h0 (by show j.val + 1 ≤ 64; omega)
  have c1 : Host.clampedStart S64x16x8x64x64 S1x16x8x64x64 hs.1 st 1 = 0 := Host.clampedStart_of_le hs.1 st 1 0 h1 (by change 0 + _ ≤ _; first | exact le_refl 16 | exact le_refl 8 | exact le_refl 64 | exact le_refl 128)
  have c2 : Host.clampedStart S64x16x8x64x64 S1x16x8x64x64 hs.1 st 2 = 0 := Host.clampedStart_of_le hs.1 st 2 0 h2 (by change 0 + _ ≤ _; first | exact le_refl 16 | exact le_refl 8 | exact le_refl 64 | exact le_refl 128)
  have c3 : Host.clampedStart S64x16x8x64x64 S1x16x8x64x64 hs.1 st 3 = 0 := Host.clampedStart_of_le hs.1 st 3 0 h3 (by change 0 + _ ≤ _; first | exact le_refl 16 | exact le_refl 8 | exact le_refl 64 | exact le_refl 128)
  have c4 : Host.clampedStart S64x16x8x64x64 S1x16x8x64x64 hs.1 st 4 = 0 := Host.clampedStart_of_le hs.1 st 4 0 h4 (by change 0 + _ ≤ _; first | exact le_refl 16 | exact le_refl 8 | exact le_refl 64 | exact le_refl 128)
  pointwise
  simp only [c0, c1, c2, c3, c4, Nat.zero_add]

theorem slice128 (x : FVec Ideal S64x16x8x64x128 .f32) (st : Fin 5 → Int) (h0 : st 0 = (j.val : Int)) (h1 : st 1 = 0) (h2 : st 2 = 0) (h3 : st 3 = 0)
    (h4 : st 4 = 0) (hs : S64x16x8x64x128.Slices (fun _ => 0) S1x16x8x64x128) (t : Fin 64) (a : Fin 128) :
    Host.dynamicSlice S1x16x8x64x128 x st hs (ix5 0 i h t a) = x (ix5 j i h t a) := by
  have c0 : Host.clampedStart S64x16x8x64x128 S1x16x8x64x128 hs.1 st 0 = j.val := Host.clampedStart_of_le hs.1 st 0 j.val h0 (by show j.val + 1 ≤ 64; omega)
  have c1 : Host.clampedStart S64x16x8x64x128 S1x16x8x64x128 hs.1 st 1 = 0 := Host.clampedStart_of_le hs.1 st 1 0 h1 (by change 0 + _ ≤ _; first | exact le_refl 16 | exact le_refl 8 | exact le_refl 64 | exact le_refl 128)
  have c2 : Host.clampedStart S64x16x8x64x128 S1x16x8x64x128 hs.1 st 2 = 0 := Host.clampedStart_of_le hs.1 st 2 0 h2 (by change 0 + _ ≤ _; first | exact le_refl 16 | exact le_refl 8 | exact le_refl 64 | exact le_refl 128)
  have c3 : Host.clampedStart S64x16x8x64x128 S1x16x8x64x128 hs.1 st 3 = 0 := Host.clampedStart_of_le hs.1 st 3 0 h3 (by change 0 + _ ≤ _; first | exact le_refl 16 | exact le_refl 8 | exact le_refl 64 | exact le_refl 128)
  have c4 : Host.clampedStart S64x16x8x64x128 S1x16x8x64x128 hs.1 st 4 = 0 := Host.clampedStart_of_le hs.1 st 4 0 h4 (by change 0 + _ ≤ _; first | exact le_refl 16 | exact le_refl 8 | exact le_refl 64 | exact le_refl 128)
  pointwise
  simp only [c0, c1, c2, c3, c4, Nat.zero_add]

theorem slice_row (x : FVec Ideal S64x16x8x64 .f32) (st : Fin 4 → Int) (h0 : st 0 = (j.val : Int)) (h1 : st 1 = 0) (h2 : st 2 = 0) (h3 : st 3 = 0)
    (hs : S64x16x8x64.Slices (fun _ => 0) S1x16x8x64) (t : Fin 64) :
    Host.dynamicSlice S1x16x8x64 x st hs (ix4 0 i h t) = x (ix4 j i h t) := by
  have c0 : Host.clampedStart S64x16x8x64 S1x16x8x64 hs.1 st 0 = j.val := Host.clampedStart_of_le hs.1 st 0 j.val h0 (by show j.val + 1 ≤ 64; omega)
  have c1 : Host.clampedStart S64x16x8x64 S1x16x8x64 hs.1 st 1 = 0 := Host.clampedStart_of_le hs.1 st 1 0 h1 (by change 0 + _ ≤ _; first | exact le_refl 16 | exact le_refl 8 | exact le_refl 64 | exact le_refl 128)
  have c2 : Host.clampedStart S64x16x8x64 S1x16x8x64 hs.1 st 2 = 0 := Host.clampedStart_of_le hs.1 st 2 0 h2 (by change 0 + _ ≤ _; first | exact le_refl 16 | exact le_refl 8 | exact le_refl 64 | exact le_refl 128)
  have c3 : Host.clampedStart S64x16x8x64 S1x16x8x64 hs.1 st 3 = 0 := Host.clampedStart_of_le hs.1 st 3 0 h3 (by change 0 + _ ≤ _; first | exact le_refl 16 | exact le_refl 8 | exact le_refl 64 | exact le_refl 128)
  pointwise
  simp only [c0, c1, c2, c3, Nat.zero_add]

theorem read_q (t : Fin 64) (a : Fin 64) : b5 j.val s (ix4 i h t a) = s.main_v57_0 (ix5 j i h t a) := by
  have e : b5 j.val s (ix4 i h t a) = b4 j.val s (ix5 0 i h t a) := by
    unfold b5
    generalize b4 j.val s = x
    pointwise
  refine e.trans (slice64 j i h _ _ (toInt_ofNat_of_lt (by omega)) ?_ ?_ ?_ ?_ _ t a) <;> rfl

theorem read_k (t : Fin 64) (a : Fin 64) : b11 j.val s (ix4 i h t a) = s.main_v57_1 (ix5 j i h t a) := by
  have e : b11 j.val s (ix4 i h t a) = b10 j.val s (ix5 0 i h t a) := by
    unfold b11
    generalize b10 j.val s = x
    pointwise
  refine e.trans (slice64 j i h _ _ (toInt_ofNat_of_lt (by omega)) ?_ ?_ ?_ ?_ _ t a) <;> rfl

theorem read_v (t : Fin 64) (a : Fin 128) : b17 j.val s (ix4 i h t a) = s.main_v57_2 (ix5 j i h t a) := by
  have e : b17 j.val s (ix4 i h t a) = b16 j.val s (ix5 0 i h t a) := by
    unfold b17
    generalize b16 j.val s = x
    pointwise
  refine e.trans (slice128 j i h _ _ (toInt_ofNat_of_lt (by omega)) ?_ ?_ ?_ ?_ _ t a) <;> rfl

theorem read_f (t : Fin 64) : b22 j.val s (ix3 i h t) = s.main_v57_3 (ix4 j i h t) := by
  have e : b22 j.val s (ix3 i h t) = b21 j.val s (ix4 0 i h t) := by
    unfold b22
    generalize b21 j.val s = x
    pointwise
  refine e.trans (slice_row j i h _ _ (toInt_ofNat_of_lt (by omega)) ?_ ?_ ?_ _ t) <;> rfl

theorem read_i (t : Fin 64) : b27 j.val s (ix3 i h t) = s.main_v57_4 (ix4 j i h t) := by
  have e : b27 j.val s (ix3 i h t) = b26 j.val s (ix4 0 i h t) := by
    unfold b27
    generalize b26 j.val s = x
    pointwise
  refine e.trans (slice_row j i h _ _ (toInt_ofNat_of_lt (by omega)) ?_ ?_ ?_ _ t) <;> rfl

theorem shift (c : Fin 64) (t : Fin 64) (e : Fin 128) : b127 j.val s (ix5 c i h t e)
    = if hc : c.val < 63 then s.main_v57_9 (ix5 ⟨1 + c, by omega⟩ i h t e) else b88 j.val s (ix4 i h t e) := by
  unfold b127 b126 b125
  generalize b88 j.val s = x
  pointwise

theorem last_fw (B : Fin 8) (τ : Fin 4096) (e : Fin 128) : R_main_v62 s (ix3 B τ ⟨128 * h + e, by omega⟩)
    = s.main_v57_9 (ix5 ⟨τ / 64, by omega⟩ ⟨B, by omega⟩ h ⟨τ % 64, by omega⟩ e) := by
  pointwise [R_main_v62]

theorem last_bw (B : Fin 8) (τ : Fin 4096) (e : Fin 128) : R_main_v66 s (ix3 B (Fin.rev τ) ⟨128 * h + e, by omega⟩)
    = s.main_v57_9 (ix5 ⟨τ / 64, by omega⟩ ⟨8 + B, by omega⟩ h ⟨τ % 64, by omega⟩ e) := by
  pointwise [R_main_v66]
  simp

end MlstmScan
-- ==== Proof.Scan.RefRun.lean ====
/- The run of the reference's loop: after `n` trips it holds the state of every scan after `64 n` tokens, and the outputs
   of those tokens. -/
module

public import proofs.«01_k».proof.Proof.Scan.RefVals
public import proofs.«01_k».proof.Proof.Scan.RefRead

@[expose] public section

set_option maxRecDepth 16384

noncomputable section

namespace MlstmScan

open Idealize.ShloMosaic Cert.ReferenceIdeal Cert.ReferenceIdeal.Gen Cert.ReferenceIdeal.Step

/-- What the loop holds at one sequence, direction and head after `n` trips. -/
structure Reached (X : Given) (d : Bool) (B h : Fin 8) (n : ℕ) (s : State Ideal) : Prop where
  hq : ∀ m t a : Fin 64, s.main_v57_0 (ix5 m (joined d B) h t a) = (X.qs d B h a (64 * m + t) : EReal)
  hk : ∀ m t a : Fin 64, s.main_v57_1 (ix5 m (joined d B) h t a) = (X.ks d B h a (64 * m + t) : EReal)
  hv : ∀ (m t : Fin 64) (e : Fin 128), s.main_v57_2 (ix5 m (joined d B) h t e) = (X.vs d B h e (64 * m + t) : EReal)
  hf : ∀ m t : Fin 64, s.main_v57_3 (ix4 m (joined d B) h t) = (X.L d B h (64 * m + t) : EReal)
  hi : ∀ m t : Fin 64, s.main_v57_4 (ix4 m (joined d B) h t) = (X.I d B h (64 * m + t) : EReal)
  hc : ∀ a e, s.main_v57_6 (ix4 (joined d B) h a e) = (state (X.L d B h) (X.I d B h) (X.ks d B h a) (X.vs d B h e) (64 * n) : EReal)
  hn : ∀ a, s.main_v57_7 (ix3 (joined d B) h a) = (state (X.L d B h) (X.I d B h) (X.ks d B h a) (fun _ => 1) (64 * n) : EReal)
  hm : s.main_v57_8 (ix2 (joined d B) h) = ((decay (X.L d B h) (64 * n) + peak (X.L d B h) (X.I d B h) (64 * n) : ℝ) : EReal)
  ho : ∀ (c t : Fin 64) (e : Fin 128) (m : ℕ), m + 64 = c + n →
    s.main_v57_9 (ix5 c (joined d B) h t e) = (X.out d B h e (64 * m + t) : EReal)

variable {X : Given} {d : Bool} {B h : Fin 8}

theorem Reached.before {s : State Ideal} {n : Fin 64} (H : Reached X d B h n s) :
    Before n s (joined d B) h (X.L d B h) (X.I d B h) (X.qs d B h) (X.ks d B h) (X.vs d B h) (64 * n) where
  hq t a := (read_q n s _ h t a).trans (H.hq n t a)
  hk t a := (read_k n s _ h t a).trans (H.hk n t a)
  hv t e := (read_v n s _ h t e).trans (H.hv n t e)
  hf t := (read_f n s _ h t).trans (H.hf n t)
  hi t := (read_i n s _ h t).trans (H.hi n t)
  hc := H.hc
  hn := H.hn
  hm := H.hm

theorem Reached.next {s : State Ideal} {n : ℕ} (hlt : n < 64) (H : Reached X d B h n s) : Reached X d B h (n + 1) (step n s) where
  hq := H.hq
  hk := H.hk
  hv := H.hv
  hf := H.hf
  hi := H.hi
  hc a e := by
    rw [step_main_v57_6]
    exact state_after (Reached.before (n := ⟨n, hlt⟩) H) a e
  hn a := by
    rw [step_main_v57_7]
    exact normaliser_after (Reached.before (n := ⟨n, hlt⟩) H) a
  hm := by
    rw [step_main_v57_8]
    exact stab_after (Reached.before (n := ⟨n, hlt⟩) H)
  ho c t e m hcm := by
    rw [step_main_v57_9, shift ⟨n, hlt⟩ s (joined d B) h c t e]
    by_cases hc : c.val < 63
    · rw [dif_pos hc]
      exact H.ho _ t e m (by show m + 64 = 1 + c.val + n; omega)
    · rw [dif_neg hc]
      have hmn : m = n := by omega
      subst hmn
      exact output_eq (Reached.before (n := ⟨m, hlt⟩) H) t e

theorem Reached.start {q k : FVec Ideal S8x4096x512 .f32} {v : FVec Ideal S8x4096x1024 .f32} {g : FVec Ideal S8x4096x32 .f32}
    (hX : X.Are q k v g) : Reached X d B h 0 (init (F := Ideal) q k v g) where
  hq m t a := seq_q X hX d B h m t a
  hk m t a := seq_k X hX d B h m t a
  hv m t e := seq_v X hX d B h m t e
  hf m t := seq_f X hX d B h m t
  hi m t := seq_i X hX d B h m t
  hc a e := by
    show Ideal.ofBits .f32 0#32 = _
    simp [state]
  hn a := by
    show Ideal.ofBits .f32 0#32 = _
    simp [state]
  hm := by
    show Ideal.ofBits .f32 0#32 = _
    simp [decay, peak]
  ho c t e m hcm := by omega

/-- The states of the loop. -/
def states (q k : FVec Ideal S8x4096x512 .f32) (v : FVec Ideal S8x4096x1024 .f32) (g : FVec Ideal S8x4096x32 .f32) : ℕ → State Ideal
  | 0 => init (F := Ideal) q k v g
  | n + 1 => step n (states q k v g n)

section Results

variable {q k : FVec Ideal S8x4096x512 .f32} {v : FVec Ideal S8x4096x1024 .f32} {g : FVec Ideal S8x4096x32 .f32}

theorem reached (hX : X.Are q k v g) (d : Bool) (B h : Fin 8) : ∀ n, n ≤ 64 → Reached X d B h n (states q k v g n)
  | 0, _ => Reached.start hX
  | n + 1, hn => (reached hX d B h n (by omega)).next (by omega)

theorem last_out (hX : X.Are q k v g) (d : Bool) (B h : Fin 8) (τ : Fin 4096) (e : Fin 128) :
    (states q k v g 64).main_v57_9 (ix5 ⟨τ / 64, by omega⟩ (joined d B) h ⟨τ % 64, by omega⟩ e) = (X.out d B h e τ : EReal) := by
  rw [(reached hX d B h 64 le_rfl).ho ⟨τ / 64, by omega⟩ ⟨τ % 64, by omega⟩ e (τ / 64) rfl]
  exact congrArg (fun s => (X.out d B h e s : EReal)) (by show 64 * (τ.val / 64) + τ.val % 64 = τ.val; omega)

/-- A feature of the joined heads, as head and feature of the head. -/
theorem split_feature (y : Fin 1024) : y = ⟨128 * (⟨y / 128, by omega⟩ : Fin 8).val + (⟨y % 128, by omega⟩ : Fin 128).val, by omega⟩ :=
  Fin.ext (by show y.val = 128 * (y.val / 128) + y.val % 128; omega)

/-- The reference's first result is the forward scan. -/
theorem reference_fw (hX : X.Are q k v g) : R_main_v62 (states q k v g 64) = X.result false := by
  funext y
  rw [eq_ix3 y]
  generalize y 0 = B
  generalize y 1 = τ
  generalize y 2 = u
  exact (congrArg (fun w => R_main_v62 (states q k v g 64) (ix3 B τ w)) (split_feature u)).trans
    ((last_fw _ _ B τ _).trans (last_out hX false B _ τ _))

/-- The reference's second result is the backward scan. -/
theorem reference_bw (hX : X.Are q k v g) : R_main_v66 (states q k v g 64) = X.result true := by
  funext y
  rw [eq_ix3 y]
  generalize y 0 = B
  generalize y 1 = τ
  generalize y 2 = u
  refine (congrArg (fun w => R_main_v66 (states q k v g 64) (ix3 B τ w)) (split_feature u)).trans ?_
  refine (congrArg (fun r => R_main_v66 (states q k v g 64) (ix3 B r _)) (Fin.rev_rev τ).symm).trans ?_
  exact (last_bw _ _ B (Fin.rev τ) _).trans (last_out hX true B _ (Fin.rev τ) _)

end Results

end MlstmScan
-- ==== Proof.Scan.Finite.lean ====
/- The precondition says that every entry of the arguments is a real number. -/
module

public import proofs.«01_k».proof.Proof.Scan.Inputs
public import Idealize.ShloMosaic.Lib.ReduceAll
public import proofs.«01_k».proof.Proof.Gen.Pre_finite

@[expose] public section

noncomputable section

namespace MlstmScan

open Idealize.ShloMosaic Cert.Pre_finite Cert.Pre_finite.Gen

/-- Plus infinity, as the precondition writes it. -/
theorem ofBits_top : Ideal.ofBits .f32 0x7F800000#32 = ⊤ := by
  simp [Ideal.ofBits, Ideal.ieee]

/-- An extended real whose absolute value is below plus infinity is a real number. -/
theorem real_of_abs (x : EReal) (h : max x (-x) < ⊤) : x = (x.toReal : EReal) := by
  induction x with
  | bot => simp at h
  | top => simp at h
  | coe r => rfl

/-- An array is finite when `jnp.all(jnp.abs(x) < jnp.inf)` says so. -/
theorem real_of_all {s : Shape} {axes : List (Fin s.rank)} (x : FVec Ideal s .f32) (inf : FVec Ideal s .f32) (hinf : ∀ i, inf i = ⊤)
    (init : IVec S_ 1) (h : s.ReducesTo axes S_) (hu : 0 < S_.numel) (j : S_.Idx)
    (e : Host.reduce IntOp.andi (cmpf .olt (Host.absf x) inf) init h hu j = 1#1) (i : s.Idx) : x i = ((x i).toReal : EReal) := by
  haveI : Subsingleton S_.Idx := ⟨fun a b => funext fun k => k.elim0⟩
  have h1 := Host.reduce_andi_all _ init h hu j e i
  refine real_of_abs (x i) ?_
  have h2 : Ideal.cmp .olt (max (x i) (-(x i))) (inf i) = 1#1 := h1
  rw [hinf] at h2
  by_contra hn
  simp [Ideal.cmp, hn] at h2

/-- The real numbers of arguments that are finite. -/
def reals (q k : FVec Ideal S8x4096x512 .f32) (v : FVec Ideal S8x4096x1024 .f32) (g : FVec Ideal S8x4096x32 .f32) : Given where
  q B τ u := (q (ix3 B τ u)).toReal
  k B τ u := (k (ix3 B τ u)).toReal
  v B τ u := (v (ix3 B τ u)).toReal
  g B τ u := (g (ix3 B τ u)).toReal

theorem reals_are (q k : FVec Ideal S8x4096x512 .f32) (v : FVec Ideal S8x4096x1024 .f32) (g : FVec Ideal S8x4096x32 .f32)
    (h : Cert.Pre_finite.fn (F := Ideal) q k v g = fun _ => 1#1) : (reals q k v g).Are q k v g := by
  have h0 := congrFun h ix0
  obtain ⟨h1, hg⟩ := IntOp.andi_eq_one.1 h0
  obtain ⟨h2, hv⟩ := IntOp.andi_eq_one.1 h1
  obtain ⟨hq, hk⟩ := IntOp.andi_eq_one.1 h2
  exact ⟨fun B τ u => real_of_all q _ (fun _ => ofBits_top) _ _ _ _ hq _, fun B τ u => real_of_all k _ (fun _ => ofBits_top) _ _ _ _ hk _,
    fun B τ u => real_of_all v _ (fun _ => ofBits_top) _ _ _ _ hv _, fun B τ u => real_of_all g _ (fun _ => ofBits_top) _ _ _ _ hg _⟩

end MlstmScan
-- ==== Proof.Ffn.Defs.lean ====
/- The feed-forward step's mathematics on the extended reals: one token's residual plus half of its gated product. -/
module

public import Idealize.ShloMosaic.PureOps.Ideal

@[expose] public section

noncomputable section

namespace Ffn

open Idealize.ShloMosaic

/-- The literals: the width of a token, the variance's epsilon, the residual's half. -/
def width : EReal := FloatOps.ofBits (F := Ideal) .f32 0x44800000#32
def epsilon : EReal := FloatOps.ofBits (F := Ideal) .f32 0x358637BD#32
def half : EReal := FloatOps.ofBits (F := Ideal) .f32 0x3F000000#32

variable (x g : Fin 1024 → EReal)

/-- A token normalised by its root mean square and scaled. -/
def norm (k : Fin 1024) : EReal := x k * Ideal.rsqrt (Ideal.div (∑ j, x j * x j) width + epsilon) * g k

/-- A linear map of the normalised token, given by a column of weights. -/
def linear (w : Fin 1024 → EReal) : EReal := ∑ k, norm x g k * w k

/-- One hidden unit: the gate's silu times the other linear map. -/
def hidden (wg wu : Fin 1024 → EReal) : EReal := linear x g wg * Ideal.logistic (linear x g wg) * linear x g wu

/-- The step's output at one place of the token: the residual and half of the hidden units' linear map. -/
def out (wg wu : Fin 1024 → Fin 2816 → EReal) (wd : Fin 2816 → EReal) (e : Fin 1024) : EReal :=
  x e + half * ∑ j, hidden x g (fun k => wg k j) (fun k => wu k j) * wd j

end Ffn
-- ==== Proof.Ffn.Pay.lean ====
/- What the feed-forward kernel's body computes of its blocks, at an index. -/
module

public import proofs.«01_k».proof.Proof.Ffn.Defs
public import proofs.«01_k».proof.Proof.Gen.Kernel2Ideal.Value
public import Idealize.ShloMosaic.Lib.Pipeline.ValueKit
public import Idealize.ShloMosaic.Lib.Pipeline.ReadBack
import Idealize.ShloMosaic.Lib.Pointwise
import Idealize.ShloMosaic.Lib.ViewIndex

@[expose] public section

set_option maxRecDepth 16384

noncomputable section

namespace Ffn.Kernel

open Idealize.ShloMosaic Idealize.ShloMosaic.TcCoe Idealize.SL.Sem Cert.Kernel2Ideal Cert.Kernel2Ideal.Gen

variable (x : Vec Ideal S1024x1024 .f32) (g : Vec Ideal S1x1x1024 .f32)

theorem norm_at (r k : Fin 1024) :
    k0_pay3 x g (ix2 r k) = norm (fun k => x (ix2 r k)) (fun k => g (ix3 0 0 k)) k := by
  unfold norm width epsilon
  pointwise [k0_pay3, k0_pay2]

theorem linear_at (n : FVec Ideal S1024x1024 .bf16) (w : Vec Ideal S1x1024x256 .bf16) (r : Fin 1024) (q : Fin 256) :
    k0_pay12 n w (ix2 r q) = ∑ k, n (ix2 r k) * w (ix3 0 k q) := by
  pointwise [k0_pay12]

/-- One chunk of hidden units, of the two linear maps. -/
def gated (a u : FVec Ideal S1024x256 .f32) : FVec Ideal S1024x256 .bf16 :=
  truncf .bf16 (mulf (mulf a (logistic a)) u) bitsLt_bf16_f32

theorem gated_at (a u : FVec Ideal S1024x256 .f32) (y : S1024x256.Idx) : gated a u y = a y * Ideal.logistic (a y) * u y := by
  pointwise [gated]

theorem down_at (h : Vec Ideal S1024x2816 .bf16) (w : Vec Ideal S1x2816x1024 .bf16) (r e : Fin 1024) :
    k0_pay1 (k0_pay2 x) (k0_pay19 h w) (ix2 r e) = x (ix2 r e) + half * ∑ j, h (ix2 r j) * w (ix3 0 j e) := by
  unfold half
  pointwise [k0_pay1, k0_pay2, k0_pay19]

/-- A chunk of the hidden units, of the normalised tokens and the two linear maps' columns. -/
def chunk (n : FVec Ideal S1024x1024 .bf16) (a u : Vec Ideal S1x1024x256 .bf16) : FVec Ideal S1024x256 .bf16 :=
  gated (k0_pay12 n a) (k0_pay12 n u)

/-- A chunk stored is the chunk: its cast to its own shape leaves it. -/
theorem own (v : FVec Ideal S1024x256 .bf16) : shapeCast S1024x256 v shapeCasts_S1024x256_S1024x256 = v := by
  funext y; rw [shapeCast_apply v _ _ _ rfl]

variable (wg wu : Vec Ideal S1x1024x2816 .bf16) (wd : Vec Ideal S1x2816x1024 .bf16)

/-- All the hidden units of the block's tokens, as the scratch holds them. -/
def units : Vec Ideal S1024x2816 .bf16 := fun y =>
  hidden (fun k => x (ix2 (y 0) k)) (fun k => g (ix3 0 0 k)) (fun k => wg (ix3 0 k (y 1))) (fun k => wu (ix3 0 k (y 1)))

theorem inb_chunk {l : ℕ} (hl : l + 256 ≤ 2816) : ∀ a, ![0, 0, l] a + ![1, 1024, 256] a ≤ S1x1024x2816.size a := by
  intro a; fin_cases a
  · exact Nat.le_of_eq rfl
  · exact Nat.le_of_eq rfl
  · exact hl

/-- A chunk of columns, read through its rectangle. -/
theorem column (w : Vec Ideal S1x1024x2816 .bf16) {l : ℕ} (hl : l + 256 ≤ 2816) (k : Fin 1024) (q : Fin 256) (j : Fin 2816) (h : j.val = l + q.val) :
    View.ld w (Rect.unit ![0, 0, l] ![1, 1024, 256] (inb_chunk hl)) (ix3 0 k q) = w (ix3 0 k j) := by
  refine congrArg w (Shape.idx3_ext ?_ ?_ ?_)
  · rfl
  · show 0 + 1 * k.val = k.val; omega
  · show l + 1 * q.val = j.val; omega

/-- The chunk of columns from `l` on gives the units from `l` on. -/
theorem chunk_at (y : S1024x2816.Idx) (z : S1024x256.Idx) {l : ℕ} (hl : l + 256 ≤ 2816) (h0 : (y 0).val = (z 0).val) (h1 : (y 1).val = l + (z 1).val)
    (a u : Vec Ideal S1x1024x256 .bf16)
    (ha : a = View.ld wg (Rect.unit ![0, 0, l] ![1, 1024, 256] (inb_chunk hl)))
    (hu : u = View.ld wu (Rect.unit ![0, 0, l] ![1, 1024, 256] (inb_chunk hl))) :
    chunk (k0_pay3 x g) a u z = units x g wg wu y := by
  have h0' : y 0 = z 0 := Fin.ext h0
  have lin : ∀ (w : Vec Ideal S1x1024x2816 .bf16) (v : Vec Ideal S1x1024x256 .bf16),
      v = View.ld w (Rect.unit ![0, 0, l] ![1, 1024, 256] (inb_chunk hl)) →
      k0_pay12 (k0_pay3 x g) v z = linear (fun k => x (ix2 (z 0) k)) (fun k => g (ix3 0 0 k)) (fun k => w (ix3 0 k (y 1))) := by
    rintro w v rfl
    refine ((congrArg (k0_pay12 (k0_pay3 x g) _) (eq_ix2 z)).trans (linear_at _ _ (z 0) (z 1))).trans ?_
    exact Finset.sum_congr rfl fun k _ => congrArg₂ (· * ·) (norm_at x g (z 0) k) (column w hl k (z 1) (y 1) h1)
  rw [chunk, gated_at, lin wg a ha, lin wu u hu, units, h0']
  rfl

/-- What the body leaves in the output block. -/
def block : Vec Ideal S1024x1024 .f32 := fun y =>
  out (fun k => x (ix2 (y 0) k)) (fun k => g (ix3 0 0 k)) (fun k j => wg (ix3 0 k j)) (fun k j => wu (ix3 0 k j)) (fun j => wd (ix3 0 j (y 1))) (y 1)

theorem block_at (h : Vec Ideal S1024x2816 .bf16) (hh : h = units x g wg wu) (y : S1024x1024.Idx) :
    k0_pay1 (k0_pay2 x) (k0_pay19 h wd) y = block x g wg wu wd y := by
  subst hh
  exact (congrArg (k0_pay1 (k0_pay2 x) (k0_pay19 (units x g wg wu) wd)) (eq_ix2 y)).trans (down_at x _ wd (y 0) (y 1))

end Ffn.Kernel
-- ==== Proof.Ffn.Point.lean ====
/- One grid point of the feed-forward kernel: the block it leaves. -/
module

public import proofs.«01_k».proof.Proof.Ffn.Pay

@[expose] public section

set_option maxRecDepth 16384

noncomputable section

namespace Ffn.Kernel

open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

set_option maxHeartbeats 4000000 in
/-- The block that a grid point leaves: each chunk of columns stored in the scratch is the units of its columns, so the
    scratch read back is all the hidden units. -/
theorem point : outsAt0 m c t = block (iblk m c 0 t) (iblk m c 1 t) (iblk m c 2 t) (iblk m c 3 t) (iblk m c 4 t) := by
  funext y
  unfold outsAt0
  generalize iblk m c 0 t = x
  generalize iblk m c 1 t = g
  generalize iblk m c 2 t = wg
  generalize iblk m c 3 t = wu
  generalize iblk m c 4 t = wd
  frame_open
  frame_out
  refine block_at x g wg wu wd _ ?_ y
  rw [View.readCov_eq_canon']
  funext z
  have whole : (Rect.unit ![0, 0] ![1024, 2816] inb_S1024x2816_S1024x2816_0_0).idx z = z := by
    funext a
    refine Fin.ext ?_
    match a with
    | 0 => show 0 + 1 * (z 0).val = (z 0).val; omega
    | 1 => show 0 + 1 * (z 1).val = (z 1).val; omega
  refine (congrArg _ whole).trans ?_
  clear whole
  canon_tiles v h
  all_goals
    first
    | refine Eq.trans (b := chunk (k0_pay3 x g) _ _ v) ?_ (chunk_at x g wg wu z v (by decide) h0 h1 _ _ rfl rfl)
    | refine Eq.trans (b := chunk (k0_pay3 x g) _ _ v) ?_
        (chunk_at x g wg wu z v (l := 0) (by decide) h0 (h1.trans (Nat.zero_add _).symm) _ _ rfl rfl)
    exact congrFun (own (chunk _ _ _)) v

end Ffn.Kernel
-- ==== Proof.Ffn.Ref.lean ====
/- The feed-forward reference's result, as an array. -/
module

public import proofs.«01_k».proof.Proof.Ffn.Defs
public import proofs.«01_k».proof.Proof.Gen.Reference2Ideal.Run
public import Idealize.ShloMosaic.Lib.Pointwise.Index
import Idealize.ShloMosaic.Lib.Pointwise
import Idealize.ShloMosaic.Lib.ViewIndex

@[expose] public section

set_option maxRecDepth 16384

noncomputable section

namespace Ffn

open Idealize.ShloMosaic Cert.Reference2Ideal Cert.Reference2Ideal.Gen

variable (x : FVec Ideal S8x4096x1024 .f32) (g : FVec Ideal S4x1024 .f32) (wg wu : FVec Ideal S4x1024x2816 .f32) (wd : FVec Ideal S4x2816x1024 .f32)

/-- The step's output for every token, the tokens of all rows of the batch in one axis. -/
def result : FVec Ideal S32768x1024 .f32 := fun y =>
  out (fun k => x (ix3 ⟨(y 0).val / 4096, Nat.div_lt_of_lt_mul (y 0).isLt⟩ ⟨(y 0).val % 4096, Nat.mod_lt _ (by decide)⟩ k)) (fun k => g (ix2 0 k))
    (fun k j => wg (ix3 0 k j)) (fun k j => wu (ix3 0 k j)) (fun j => wd (ix3 0 j (y 1))) (y 1)

/-- The reference's intermediate arrays. -/
def normed : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ (extractStridedSlice S1x1024 ![0, 0] g slices_S4x1024_S1x1024_0_0) shapeCasts_S1x1024_S1024)))

def mapped (n : FVec Ideal S8x4096x1024 .f32) (w : FVec Ideal S4x1024x2816 .f32) : FVec Ideal S8x4096x2816 .f32 :=
  Host.dotGeneral dot_S8x4096x1024_S1024x2816_S8x4096x2816_2_0_01_1_n_n none n
    (shapeCast _ (extractStridedSlice S1x1024x2816 ![0, 0, 0] w slices_S4x1024x2816_S1x1024x2816_0_0_0) shapeCasts_S1x1024x2816_S1024x2816)

def silued (a : FVec Ideal S8x4096x2816 .f32) : FVec Ideal S8x4096x2816 .f32 :=
  mulf a (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf a))))

def summed (h : FVec Ideal S8x4096x2816 .f32) : FVec Ideal S32768x1024 .f32 :=
  shapeCast _ (addf x (mulf (broadcastInDim S8x4096x1024 ![] bcast_S_S8x4096x1024 (constant S_ .f32 0x3F000000#32)) (Host.dotGeneral dot_S8x4096x2816_S2816x1024_S8x4096x1024_2_0_01_1_n_n none h
    (shapeCast _ (extractStridedSlice S1x2816x1024 ![0, 0, 0] wd slices_S4x2816x1024_S1x2816x1024_0_0_0) shapeCasts_S1x2816x1024_S2816x1024)))) shapeCasts_S8x4096x1024_S32768x1024

theorem normed_at (B : Fin 8) (τ : Fin 4096) (k : Fin 1024) :
    normed x g (ix3 B τ k) = norm (fun k => x (ix3 B τ k)) (fun k => g (ix2 0 k)) k := by
  unfold norm width epsilon
  pointwise [normed]

theorem mapped_at (n : FVec Ideal S8x4096x1024 .f32) (w : FVec Ideal S4x1024x2816 .f32) (B : Fin 8) (τ : Fin 4096) (j : Fin 2816) :
    mapped n w (ix3 B τ j) = ∑ k, n (ix3 B τ k) * w (ix3 0 k j) := by
  pointwise [mapped]

theorem silued_at (a : FVec Ideal S8x4096x2816 .f32) (B : Fin 8) (τ : Fin 4096) (j : Fin 2816) :
    silued a (ix3 B τ j) = a (ix3 B τ j) * Ideal.logistic (a (ix3 B τ j)) := by
  unfold Ideal.logistic
  pointwise [silued]

theorem summed_at (h : FVec Ideal S8x4096x2816 .f32) (T : Fin 32768) (e : Fin 1024) :
    summed x wd h (ix2 T e) = x (ix3 ⟨T.val / 4096, by omega⟩ ⟨T.val % 4096, by omega⟩ e)
      + half * ∑ j, h (ix3 ⟨T.val / 4096, by omega⟩ ⟨T.val % 4096, by omega⟩ j) * wd (ix3 0 j e) := by
  unfold half
  pointwise [summed]

theorem reference_result : summed x wd (mulf (silued (mapped (normed x g) wg)) (mapped (normed x g) wu)) = result x g wg wu wd := by
  funext y
  have lin : ∀ (w : FVec Ideal S4x1024x2816 .f32) B τ j, mapped (normed x g) w (ix3 B τ j)
      = linear (fun k => x (ix3 B τ k)) (fun k => g (ix2 0 k)) (fun k => w (ix3 0 k j)) := fun w B τ j =>
    (mapped_at _ w B τ j).trans (Finset.sum_congr rfl fun k _ => congrArg (· * w (ix3 0 k j)) (normed_at x g B τ k))
  have hid : ∀ B τ j, mulf (silued (mapped (normed x g) wg)) (mapped (normed x g) wu) (ix3 B τ j)
      = hidden (fun k => x (ix3 B τ k)) (fun k => g (ix2 0 k)) (fun k => wg (ix3 0 k j)) (fun k => wu (ix3 0 k j)) := fun B τ j =>
    congrArg₂ (· * ·) ((silued_at _ B τ j).trans (by rw [lin])) (lin wu B τ j)
  refine ((congrArg (summed x wd _) (eq_ix2 y)).trans (summed_at x wd _ (y 0) (y 1))).trans ?_
  unfold result out
  exact congrArg (fun s => _ + half * s) (Finset.sum_congr rfl fun j _ => congrArg (· * wd (ix3 0 j (y 1))) (hid _ _ j))

end Ffn
-- ==== Proof.Ffn.Run.lean ====
/- The feed-forward kernel's result array: every block is the step's output for its tokens. -/
module

public import proofs.«01_k».proof.Proof.Ffn.Point
public import proofs.«01_k».proof.Proof.Ffn.Ref
import Idealize.ShloMosaic.Lib.Pointwise

@[expose] public section

set_option maxRecDepth 16384

noncomputable section

namespace Ffn.Kernel

open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

theorem index : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] := by decide +kernel

/-- The arrays that the host code hands to the call: the tokens in one axis, the scales, the weights rounded. -/
theorem V_x : V m c main_v0 = shapeCast S32768x1024 (m ((c.tc : Thread nD τ).loc main_arg0) : FVec Ideal S8x4096x1024 .f32) shapeCasts_S8x4096x1024_S32768x1024 := by
  unfold V; after_reads_simp
  rfl

theorem V_g : V m c main_v4 = shapeCast S4x1x1024 (m ((c.tc : Thread nD τ).loc main_arg1) : FVec Ideal S4x1024 .f32) shapeCasts_S4x1024_S4x1x1024 := by
  unfold V; after_reads_simp
  rfl

theorem V_wg : V m c main_v1 = (truncf .bf16 (m ((c.tc : Thread nD τ).loc main_arg2) : FVec Ideal S4x1024x2816 .f32) bitsLt_bf16_f32 : FVec Ideal S4x1024x2816 .bf16) := by
  unfold V; after_reads_simp

theorem V_wu : V m c main_v2 = (truncf .bf16 (m ((c.tc : Thread nD τ).loc main_arg3) : FVec Ideal S4x1024x2816 .f32) bitsLt_bf16_f32 : FVec Ideal S4x1024x2816 .bf16) := by
  unfold V; after_reads_simp

theorem V_wd : V m c main_v3 = (truncf .bf16 (m ((c.tc : Thread nD τ).loc main_arg4) : FVec Ideal S4x2816x1024 .f32) bitsLt_bf16_f32 : FVec Ideal S4x2816x1024 .bf16) := by
  unfold V; after_reads_simp

/-- The tokens' axis joined of two. -/
theorem joined_at (x : FVec Ideal S8x4096x1024 .f32) (T : Fin 32768) (k : Fin 1024) :
    shapeCast S32768x1024 x shapeCasts_S8x4096x1024_S32768x1024 (ix2 T k)
      = x (ix3 ⟨T.val / 4096, by omega⟩ ⟨T.val % 4096, by omega⟩ k) := by
  pointwise

theorem scale_at (g : FVec Ideal S4x1024 .f32) (k : Fin 1024) :
    shapeCast S4x1x1024 g shapeCasts_S4x1024_S4x1x1024 (ix3 0 0 k) = g (ix2 0 k) := by
  pointwise

/-- The blocks that a grid point reads, at an index. -/
theorem x_at (r k : Fin 1024) (T : Fin 32768) (hT : T.val = t.val * 1024 + r.val) :
    iblk m c 0 t (ix2 r k) = V m c main_v0 (ix2 T k) := by
  blk_ext [iblk, index t, hT]

theorem g_at (k : Fin 1024) : iblk m c 1 t (ix3 0 0 k) = V m c main_v4 (ix3 0 0 k) := by
  blk_ext [iblk, index t]

theorem wg_at (k : Fin 1024) (j : Fin 2816) : iblk m c 2 t (ix3 0 k j) = V m c main_v1 (ix3 0 k j) := by
  blk_ext [iblk, index t]

theorem wu_at (k : Fin 1024) (j : Fin 2816) : iblk m c 3 t (ix3 0 k j) = V m c main_v2 (ix3 0 k j) := by
  blk_ext [iblk, index t]

theorem wd_at (j : Fin 2816) (e : Fin 1024) : iblk m c 4 t (ix3 0 j e) = V m c main_v3 (ix3 0 j e) := by
  blk_ext [iblk, index t]

/-- The step's output for the five arguments on the device. -/
def results : FVec Ideal S32768x1024 .f32 :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The block of a grid point holds the step's output for its 1024 tokens. -/
theorem block_result (r e : Fin 1024) (T : Fin 32768) (hT : T.val = t.val * 1024 + r.val) :
    block (iblk m c 0 t) (iblk m c 1 t) (iblk m c 2 t) (iblk m c 3 t) (iblk m c 4 t) (ix2 r e) = results m c (ix2 T e) := by
  unfold block results result
  have hx : (fun k => iblk m c 0 t (ix2 r k)) = fun k => (m ((c.tc : Thread nD τ).loc main_arg0) : FVec Ideal S8x4096x1024 .f32)
      (ix3 ⟨T.val / 4096, by omega⟩ ⟨T.val % 4096, by omega⟩ k) :=
    funext fun k => ((x_at m c t r k T hT).trans (congrFun (V_x m c) _)).trans (joined_at _ T k)
  have hg : (fun k => iblk m c 1 t (ix3 0 0 k)) = fun k => (m ((c.tc : Thread nD τ).loc main_arg1) : FVec Ideal S4x1024 .f32) (ix2 0 k) :=
    funext fun k => ((g_at m c t k).trans (congrFun (V_g m c) _)).trans (scale_at _ k)
  have hwg : (fun k j => iblk m c 2 t (ix3 0 k j)) = fun k j => (m ((c.tc : Thread nD τ).loc main_arg2) : FVec Ideal S4x1024x2816 .f32) (ix3 0 k j) :=
    funext fun k => funext fun j => (wg_at m c t k j).trans (congrFun (V_wg m c) _)
  have hwu : (fun k j => iblk m c 3 t (ix3 0 k j)) = fun k j => (m ((c.tc : Thread nD τ).loc main_arg3) : FVec Ideal S4x1024x2816 .f32) (ix3 0 k j) :=
    funext fun k => funext fun j => (wu_at m c t k j).trans (congrFun (V_wu m c) _)
  have hwd : (fun j => iblk m c 4 t (ix3 0 j e)) = fun j => (m ((c.tc : Thread nD τ).loc main_arg4) : FVec Ideal S4x2816x1024 .f32) (ix3 0 j e) :=
    funext fun j => (wd_at m c t j e).trans (congrFun (V_wd m c) _)
  exact congr (congr (congr (congr (congr (congrArg out hx) hg) hwg) hwu) hwd) rfl

theorem block_result_at (y : S1024x1024.Idx) (z : S32768x1024.Idx) (h0 : (z 0).val = t.val * 1024 + (y 0).val) (h1 : (z 1).val = (y 1).val) :
    block (iblk m c 0 t) (iblk m c 1 t) (iblk m c 2 t) (iblk m c 3 t) (iblk m c 4 t) y = results m c z := by
  have h1' : z 1 = y 1 := Fin.ext h1
  refine ((congrArg (block _ _ _ _ _) (eq_ix2 y)).trans (block_result m c t (y 0) (y 1) (z 0) h0)).trans ?_
  exact (congrArg (fun e => results m c (ix2 (z 0) e)) h1'.symm).trans (congrArg (results m c) (eq_ix2 z).symm)

/-- So the blocks make up the step's output for all tokens. -/
theorem kernel_result : (dats m 0 c).arrAt 5 cfg0.N = results m c := by
  refine (dats m 0 c).arrAt_eq_of_covers 5 _ (by decide +kernel) fun t hf y => ?_
  rw [after0_5, point m c t]
  refine block_result_at m c t _ _ ?_ ?_
  · blk_simp [index t]
  · blk_simp [index t]

end Ffn.Kernel
-- ==== Proof.Last.Defs.lean ====
/- The last step's mathematics on the extended reals: the mLSTM's output, normalised by heads, gated and projected, is
   added to a token. -/
module

public import proofs.«01_k».proof.Proof.Ffn.Defs

@[expose] public section

noncomputable section

namespace Ffn

open Idealize.ShloMosaic

/-- The literal: the width of a head. -/
def headWidth : EReal := FloatOps.ofBits (F := Ideal) .f32 0x43000000#32

/-- Place `q` of the head that place `k` lies in. -/
def sameHead (k : Fin 1024) (q : Fin 128) : Fin 1024 := ⟨k.val / 128 * 128 + q.val, by omega⟩

/-- A token normalised by the root mean square of each head. -/
def headNorm (h : Fin 1024 → EReal) (k : Fin 1024) : EReal :=
  h k * Ideal.rsqrt (Ideal.div (∑ q, h (sameHead k q) * h (sameHead k q)) headWidth + epsilon)

variable (x h o gh : Fin 1024 → EReal) (wo : Fin 1024 → Fin 1024 → EReal)

/-- The token with the mLSTM's output added: normalised by heads, scaled, gated, projected. -/
def added (e : Fin 1024) : EReal := x e + ∑ k, headNorm h k * gh k * Ideal.logistic (o k) * wo k e

end Ffn
-- ==== Proof.Last.Pay.lean ====
/- What the last step's kernel computes of its blocks, at an index. -/
module

public import proofs.«01_k».proof.Proof.Last.Defs
public import proofs.«01_k».proof.Proof.Gen.Kernel3Ideal.Skeleton
public import Idealize.ShloMosaic.Lib.Pipeline.ValueKit
public import Idealize.ShloMosaic.Lib.Pipeline.ReadBack
import Idealize.ShloMosaic.Lib.Pointwise
import Idealize.ShloMosaic.Lib.ViewIndex

@[expose] public section

set_option maxRecDepth 16384

noncomputable section

namespace Ffn.Last

open Idealize.ShloMosaic Idealize.ShloMosaic.TcCoe Idealize.SL.Sem Cert.Kernel3Ideal Cert.Kernel3Ideal.Gen

/-- Eight heads' columns side by side. -/
theorem joined_at (f : Fin 8 → FVec Ideal S512x128 .f32) (r : Fin 512) (k : Fin 1024) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
      concatenates_S512x128_S512x128_S512x128_S512x128_S512x128_S512x128_S512x128_S512x128_S512x1024_d1 (ix2 r k)
      = f ⟨k.val / 128, by omega⟩ (ix2 r ⟨k.val % 128, by omega⟩) := by
  have piece : ∀ (p : Fin 8) (q : Fin 128), k.val = p.val * 128 + q.val →
      f ⟨k.val / 128, by omega⟩ (ix2 r ⟨k.val % 128, by omega⟩) = f p (ix2 r q) := fun p q hk => by
    rw [show (⟨k.val / 128, by omega⟩ : Fin 8) = p from Fin.ext (by show k.val / 128 = p.val; omega),
      show (⟨k.val % 128, by omega⟩ : Fin 128) = q from Fin.ext (by show k.val % 128 = q.val; omega)]
  pointwise
  split_ifs
  all_goals
    refine (piece _ _ ?_).symm
    simp only [Fin.isValue, Fin.reduceFinMk, Fin.val_ofNat]
    omega

variable (h : FVec Ideal S512x1024 .f32)

/-- One head's columns, normalised. -/
def headPart (l : ℕ) (hs : S512x1024.Slices ![0, l] S512x128) : FVec Ideal S512x128 .f32 :=
  mulf (extractStridedSlice S512x128 ![0, l] h hs) (broadcastTo S512x128 (rsqrt (addf (divf (shapeCast S512x1 (multiReduction .add [1] S512
    (mulf (extractStridedSlice S512x128 ![0, l] h hs) (extractStridedSlice S512x128 ![0, l] h hs)) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128)

theorem headPart_at (p : Fin 8) (hs : S512x1024.Slices ![0, p.val * 128] S512x128) (r : Fin 512) (q : Fin 128) :
    headPart h (p.val * 128) hs (ix2 r q) = headNorm (fun k => h (ix2 r k)) ⟨p.val * 128 + q.val, by omega⟩ := by
  have e : ∀ q' : Fin 128, sameHead ⟨p.val * 128 + q.val, by omega⟩ q' = ⟨p.val * 128 + q'.val, by omega⟩ := fun q' => Fin.ext (by
    show (p.val * 128 + q.val) / 128 * 128 + q'.val = p.val * 128 + q'.val
    omega)
  unfold headNorm headWidth epsilon
  simp only [e]
  pointwise [headPart]

/-- All the heads, normalised, side by side. -/
def headsNormed : FVec Ideal S512x1024 .f32 :=
  concatenate S512x1024 1 [⟨S512x128, headPart h 0 slices_S512x1024_o0_0_S512x128⟩, ⟨S512x128, headPart h 128 slices_S512x1024_o0_128_S512x128⟩,
    ⟨S512x128, headPart h 256 slices_S512x1024_o0_256_S512x128⟩, ⟨S512x128, headPart h 384 slices_S512x1024_o0_384_S512x128⟩,
    ⟨S512x128, headPart h 512 slices_S512x1024_o0_512_S512x128⟩, ⟨S512x128, headPart h 640 slices_S512x1024_o0_640_S512x128⟩,
    ⟨S512x128, headPart h 768 slices_S512x1024_o0_768_S512x128⟩, ⟨S512x128, headPart h 896 slices_S512x1024_o0_896_S512x128⟩]
    concatenates_S512x128_S512x128_S512x128_S512x128_S512x128_S512x128_S512x128_S512x128_S512x1024_d1

theorem cuts : ∀ p : Fin 8, S512x1024.Slices ![0, p.val * 128] S512x128 := by decide +kernel

theorem headsNormed_at (r : Fin 512) (k : Fin 1024) : headsNormed h (ix2 r k) = headNorm (fun k => h (ix2 r k)) k := by
  refine (joined_at (fun p => headPart h (p.val * 128) (cuts p)) r k).trans ((headPart_at h _ _ r _).trans ?_)
  exact congrArg (headNorm _) (Fin.ext (by show k.val / 128 * 128 + k.val % 128 = k.val; omega))

/-- The mLSTM's output gated and projected, added to the tokens. -/
def gatedHeads (n o : FVec Ideal S512x1024 .f32) (gh : FVec Ideal S1x1024 .f32) : FVec Ideal S512x1024 .bf16 :=
  truncf .bf16 (mulf (mulf n (broadcastTo S512x1024 gh broadcasts_S1x1024_S512x1024)) (logistic o)) bitsLt_bf16_f32

def project (x : FVec Ideal S512x1024 .f32) (n : FVec Ideal S512x1024 .bf16) (wo : FVec Ideal S1024x1024 .bf16) : FVec Ideal S512x1024 .f32 :=
  addf x (matmul dot_S512x1024_S1024x1024_S512x1024_1_0_0_1_n_n none n wo (constant S512x1024 .f32 0x00000000#32))

theorem gatedHeads_at (n o : FVec Ideal S512x1024 .f32) (gh : FVec Ideal S1x1024 .f32) (r : Fin 512) (k : Fin 1024) :
    gatedHeads n o gh (ix2 r k) = n (ix2 r k) * gh (ix2 0 k) * Ideal.logistic (o (ix2 r k)) := by
  pointwise [gatedHeads]

theorem project_at (x : FVec Ideal S512x1024 .f32) (n : FVec Ideal S512x1024 .bf16) (wo : FVec Ideal S1024x1024 .bf16) (r : Fin 512) (e : Fin 1024) :
    project x n wo (ix2 r e) = x (ix2 r e) + ∑ k, n (ix2 r k) * wo (ix2 k e) := by
  pointwise [project]

/-- The six blocks that the tokens with the mLSTM's output added are computed from. -/
structure Given where
  x : Vec Ideal S512x1024 .f32
  hf : Vec Ideal S512x1024 .f32
  hb : Vec Ideal S512x1024 .f32
  o : Vec Ideal S512x1024 .f32
  gh : Vec Ideal S1x1x1024 .f32
  wo : Vec Ideal S1x1024x1024 .bf16

variable (B : Given)

def tokens : FVec Ideal S512x1024 .f32 :=
  project (k0_pay3 B.x) (gatedHeads (headsNormed (k0_pay4 B.hf B.hb)) (k0_pay5 B.o) (k0_pay6 B.gh)) (k0_pay7 B.wo)

/-- One row of the tokens, on the extended reals. -/
def Given.row (r : Fin 512) : Fin 1024 → EReal :=
  added (fun k => B.x (ix2 r k)) (fun k => B.hf (ix2 r k) + B.hb (ix2 r k)) (fun k => B.o (ix2 r k)) (fun k => B.gh (ix3 0 0 k)) (fun k e => B.wo (ix3 0 k e))

theorem sum_at (r : Fin 512) (k : Fin 1024) : k0_pay4 B.hf B.hb (ix2 r k) = B.hf (ix2 r k) + B.hb (ix2 r k) := by
  pointwise [k0_pay4]

theorem same_at (x : Vec Ideal S512x1024 .f32) (r : Fin 512) (k : Fin 1024) : k0_pay3 x (ix2 r k) = x (ix2 r k) := by
  pointwise [k0_pay3]

theorem scale_at (g : Vec Ideal S1x1x1024 .f32) (k : Fin 1024) : k0_pay6 g (ix2 0 k) = g (ix3 0 0 k) := by
  pointwise [k0_pay6]

theorem weight_at (w : Vec Ideal S1x1024x1024 .bf16) (k e : Fin 1024) : k0_pay7 w (ix2 k e) = w (ix3 0 k e) := by
  pointwise [k0_pay7]

theorem tokens_at (r : Fin 512) (e : Fin 1024) : tokens B (ix2 r e) = B.row r e := by
  unfold tokens Given.row added
  refine (project_at _ _ _ r e).trans (congrArg₂ (· + ·) (same_at B.x r e) (Finset.sum_congr rfl fun k _ => ?_))
  refine congrArg₂ (· * ·) ((gatedHeads_at _ _ _ r k).trans ?_) (weight_at B.wo k e)
  refine congrArg₂ (· * ·) (congrArg₂ (· * ·) ((headsNormed_at _ r k).trans ?_) (scale_at B.gh k)) (congrArg Ideal.logistic (same_at B.o r k))
  exact congrArg (fun f => headNorm f k) (funext fun k => sum_at B r k)

/-- Rows normalised by their root mean square and scaled. -/
def scaled (t : FVec Ideal S512x1024 .f32) (g : FVec Ideal S1x1024 .f32) : FVec Ideal S512x1024 .f32 :=
  mulf (mulf t (broadcastTo S512x1024 (rsqrt (addf (divf (shapeCast S512x1 (multiReduction .add [1] S512 (mulf t t) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 g broadcasts_S1x1024_S512x1024)

theorem scaled_at (t : FVec Ideal S512x1024 .f32) (g : FVec Ideal S1x1024 .f32) (r : Fin 512) (k : Fin 1024) :
    scaled t g (ix2 r k) = norm (fun k => t (ix2 r k)) (fun k => g (ix2 0 k)) k := by
  unfold norm width epsilon
  pointwise [scaled]

/-- The normalised tokens that the two linear maps are applied to. -/
def normed (g : Vec Ideal S1x1x1024 .f32) : FVec Ideal S512x1024 .bf16 := truncf .bf16 (scaled (tokens B) (k0_pay6 g)) bitsLt_bf16_f32

theorem normed_at (g : Vec Ideal S1x1x1024 .f32) (r : Fin 512) (k : Fin 1024) :
    normed B g (ix2 r k) = norm (B.row r) (fun k => g (ix3 0 0 k)) k :=
  (scaled_at _ _ r k).trans (congrArg₂ (fun x g => norm x g k) (funext fun k => tokens_at B r k) (funext fun k => scale_at g k))

/-- The body's own terms are these. -/
theorem tokens_eq : k0_pay18 (k0_pay3 B.x) (k0_pay4 B.hf B.hb) (k0_pay5 B.o) (k0_pay6 B.gh) (k0_pay7 B.wo) (k0_pay8 B.hf B.hb) (k0_pay9 B.hf B.hb)
    (k0_pay12 (k0_pay10 B.hf B.hb) (k0_pay11 B.hf B.hb)) (k0_pay13 (k0_pay4 B.hf B.hb)) (k0_pay14 (k0_pay4 B.hf B.hb)) (k0_pay15 (k0_pay4 B.hf B.hb))
    (k0_pay16 (k0_pay4 B.hf B.hb)) (k0_pay17 (k0_pay4 B.hf B.hb)) = tokens B := rfl

theorem normed_eq (g : Vec Ideal S1x1x1024 .f32) : k0_pay19 (k0_pay3 B.x) (k0_pay4 B.hf B.hb) (k0_pay5 B.o) (k0_pay6 B.gh) (k0_pay7 B.wo) (k0_pay8 B.hf B.hb) (k0_pay9 B.hf B.hb)
    (k0_pay12 (k0_pay10 B.hf B.hb) (k0_pay11 B.hf B.hb)) (k0_pay13 (k0_pay4 B.hf B.hb)) (k0_pay14 (k0_pay4 B.hf B.hb)) (k0_pay15 (k0_pay4 B.hf B.hb))
    (k0_pay16 (k0_pay4 B.hf B.hb)) (k0_pay17 (k0_pay4 B.hf B.hb)) g = normed B g := rfl

end Ffn.Last
-- ==== Proof.Last.Chunk.lean ====
/- The last step's hidden units, chunk by chunk, and the block that the body leaves. -/
module

public import proofs.«01_k».proof.Proof.Last.Pay
import Idealize.ShloMosaic.Lib.Pointwise
import Idealize.ShloMosaic.Lib.ViewIndex

@[expose] public section

set_option maxRecDepth 16384

noncomputable section

namespace Ffn.Last

open Idealize.ShloMosaic Idealize.ShloMosaic.TcCoe Idealize.SL.Sem Cert.Kernel3Ideal Cert.Kernel3Ideal.Gen

/-- A linear map of the normalised tokens, and a chunk of hidden units of two of them. -/
def mapped (n : FVec Ideal S512x1024 .bf16) (w : Vec Ideal S1x1024x256 .bf16) : FVec Ideal S512x256 .f32 :=
  matmul dot_S512x1024_S1024x256_S512x256_1_0_0_1_n_n none n (shapeCast S1024x256 w shapeCasts_S1x1024x256_S1024x256 : FVec Ideal S1024x256 .bf16) (constant S512x256 .f32 0x00000000#32)

theorem mapped_at (n : FVec Ideal S512x1024 .bf16) (w : Vec Ideal S1x1024x256 .bf16) (r : Fin 512) (q : Fin 256) :
    mapped n w (ix2 r q) = ∑ k, n (ix2 r k) * w (ix3 0 k q) := by
  pointwise [mapped]

def gated (a u : FVec Ideal S512x256 .f32) : FVec Ideal S512x256 .bf16 :=
  truncf .bf16 (mulf (mulf a (logistic a)) u) bitsLt_bf16_f32

theorem gated_at (a u : FVec Ideal S512x256 .f32) (y : S512x256.Idx) : gated a u y = a y * Ideal.logistic (a y) * u y := by
  pointwise [gated]

def chunk (n : FVec Ideal S512x1024 .bf16) (a u : Vec Ideal S1x1024x256 .bf16) : FVec Ideal S512x256 .bf16 := gated (mapped n a) (mapped n u)

/-- A chunk stored is the chunk: its cast to its own shape leaves it. -/
theorem own (v : FVec Ideal S512x256 .bf16) : shapeCast S512x256 v shapeCasts_S512x256_S512x256 = v := by
  funext y; rw [shapeCast_apply v _ _ _ rfl]

variable (B : Given) (g : Vec Ideal S1x1x1024 .f32) (wg wu : Vec Ideal S1x1024x2816 .bf16) (wd : Vec Ideal S1x2816x1024 .bf16) (gf : Vec Ideal S1x1024 .f32)

/-- All the hidden units of the block's tokens, as the scratch holds them. -/
def units : Vec Ideal S512x2816 .bf16 := fun y =>
  hidden (B.row (y 0)) (fun k => g (ix3 0 0 k)) (fun k => wg (ix3 0 k (y 1))) (fun k => wu (ix3 0 k (y 1)))

theorem inb_chunk {l : ℕ} (hl : l + 256 ≤ 2816) : ∀ a, ![0, 0, l] a + ![1, 1024, 256] a ≤ S1x1024x2816.size a := by
  intro a; fin_cases a
  · exact Nat.le_of_eq rfl
  · exact Nat.le_of_eq rfl
  · exact hl

/-- A chunk of columns, read through its rectangle. -/
theorem column (w : Vec Ideal S1x1024x2816 .bf16) {l : ℕ} (hl : l + 256 ≤ 2816) (k : Fin 1024) (q : Fin 256) (j : Fin 2816) (h : j.val = l + q.val) :
    View.ld w (Rect.unit ![0, 0, l] ![1, 1024, 256] (inb_chunk hl)) (ix3 0 k q) = w (ix3 0 k j) := by
  refine congrArg w (Shape.idx3_ext ?_ ?_ ?_)
  · rfl
  · show 0 + 1 * k.val = k.val; omega
  · show l + 1 * q.val = j.val; omega

/-- The chunk of columns from `l` on gives the units from `l` on. -/
theorem chunk_at (y : S512x2816.Idx) (z : S512x256.Idx) {l : ℕ} (hl : l + 256 ≤ 2816) (h0 : (y 0).val = (z 0).val) (h1 : (y 1).val = l + (z 1).val)
    (a u : Vec Ideal S1x1024x256 .bf16)
    (ha : a = View.ld wg (Rect.unit ![0, 0, l] ![1, 1024, 256] (inb_chunk hl)))
    (hu : u = View.ld wu (Rect.unit ![0, 0, l] ![1, 1024, 256] (inb_chunk hl))) :
    chunk (normed B g) a u z = units B g wg wu y := by
  have h0' : y 0 = z 0 := Fin.ext h0
  have lin : ∀ (w : Vec Ideal S1x1024x2816 .bf16) (v : Vec Ideal S1x1024x256 .bf16),
      v = View.ld w (Rect.unit ![0, 0, l] ![1, 1024, 256] (inb_chunk hl)) →
      mapped (normed B g) v z = linear (B.row (z 0)) (fun k => g (ix3 0 0 k)) (fun k => w (ix3 0 k (y 1))) := by
    rintro w v rfl
    refine ((congrArg (mapped (normed B g) _) (eq_ix2 z)).trans (mapped_at _ _ (z 0) (z 1))).trans ?_
    exact Finset.sum_congr rfl fun k _ => congrArg₂ (· * ·) (normed_at B g (z 0) k) (column w hl k (z 1) (y 1) h1)
  rw [chunk, gated_at, lin wg a ha, lin wu u hu, units, h0']
  rfl

/-- The tokens with half of the hidden units' linear map added. -/
def summed (t : FVec Ideal S512x1024 .f32) (h : Vec Ideal S512x2816 .bf16) : FVec Ideal S512x1024 .f32 :=
  addf t (mulf (broadcast S512x1024 (Scalar.ofBits .f32 0x3F000000#32))
    (matmul (φ₁ := .bf16) (φ₂ := .bf16) dot_S512x2816_S2816x1024_S512x1024_1_0_0_1_n_n none h (shapeCast S2816x1024 wd shapeCasts_S1x2816x1024_S2816x1024 : FVec Ideal S2816x1024 .bf16) (constant S512x1024 .f32 0x00000000#32)))

theorem summed_at (t : FVec Ideal S512x1024 .f32) (h : Vec Ideal S512x2816 .bf16) (r : Fin 512) (e : Fin 1024) :
    summed wd t h (ix2 r e) = t (ix2 r e) + half * ∑ j, h (ix2 r j) * wd (ix3 0 j e) := by
  unfold half
  pointwise [summed]

theorem final_at (k : Fin 1024) : shapeCast S1x1024 gf shapeCasts_S1x1024_S1x1024 (ix2 0 k) = gf (ix2 0 k) := by
  pointwise

/-- What the body leaves in the output block. -/
def block : Vec Ideal S512x1024 .f32 := fun y =>
  norm (fun e => out (B.row (y 0)) (fun k => g (ix3 0 0 k)) (fun k j => wg (ix3 0 k j)) (fun k j => wu (ix3 0 k j)) (fun j => wd (ix3 0 j e)) e) (fun k => gf (ix2 0 k)) (y 1)

theorem block_at (t : FVec Ideal S512x1024 .f32) (ht : t = tokens B) (h : Vec Ideal S512x2816 .bf16) (hh : h = units B g wg wu) (y : S512x1024.Idx) :
    k0_pay2 t h wd gf y = block B g wg wu wd gf y := by
  subst hh ht
  show scaled (summed wd (tokens B) (units B g wg wu)) (shapeCast S1x1024 gf shapeCasts_S1x1024_S1x1024) y = _
  refine ((congrArg (scaled _ _) (eq_ix2 y)).trans (scaled_at _ _ (y 0) (y 1))).trans ?_
  refine congrArg₂ (fun x g => norm x g (y 1)) (funext fun e => ?_) (funext fun k => final_at gf k)
  exact (summed_at wd _ _ (y 0) e).trans (congrArg (· + _) (tokens_at B (y 0) e))

end Ffn.Last
-- ==== Proof.Last.Point.lean ====
/- One grid point of the last step's kernel: the block it leaves. -/
module

public import proofs.«01_k».proof.Proof.Last.Chunk
public import proofs.«01_k».proof.Proof.Gen.Kernel3Ideal.Value

@[expose] public section

set_option maxRecDepth 16384

noncomputable section

namespace Ffn.Last

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- The blocks that the tokens with the mLSTM's output added are computed from. -/
def given : Given := ⟨iblk m c 0 t, iblk m c 5 t, iblk m c 6 t, iblk m c 7 t, iblk m c 8 t, iblk m c 9 t⟩

set_option maxHeartbeats 4000000 in
/-- The block that a grid point leaves: each chunk of columns stored in the scratch is the units of its columns, so the
    scratch read back is all the hidden units. -/
theorem point : outsAt0 m c t = block (given m c t) (iblk m c 1 t) (iblk m c 2 t) (iblk m c 3 t) (iblk m c 4 t) (iblk m c 10 t) := by
  funext y
  unfold outsAt0 given
  generalize iblk m c 0 t = x
  generalize iblk m c 1 t = g
  generalize iblk m c 2 t = wg
  generalize iblk m c 3 t = wu
  generalize iblk m c 4 t = wd
  generalize iblk m c 5 t = hf
  generalize iblk m c 6 t = hb
  generalize iblk m c 7 t = o
  generalize iblk m c 8 t = gh
  generalize iblk m c 9 t = wo
  generalize iblk m c 10 t = gf
  frame_open
  frame_out
  refine block_at ⟨x, hf, hb, o, gh, wo⟩ g wg wu wd gf _ (tokens_eq ⟨x, hf, hb, o, gh, wo⟩) _ ?_ y
  have first : k0_pay20 (k0_pay3 x) (k0_pay4 hf hb) (k0_pay5 o) (k0_pay6 gh) (k0_pay7 wo) (k0_pay8 hf hb) (k0_pay9 hf hb)
      (k0_pay12 (k0_pay10 hf hb) (k0_pay11 hf hb)) (k0_pay13 (k0_pay4 hf hb)) (k0_pay14 (k0_pay4 hf hb)) (k0_pay15 (k0_pay4 hf hb))
      (k0_pay16 (k0_pay4 hf hb)) (k0_pay17 (k0_pay4 hf hb)) g = mapped (normed ⟨x, hf, hb, o, gh, wo⟩ g) := rfl
  have hn := normed_eq ⟨x, hf, hb, o, gh, wo⟩ g
  dsimp only at hn
  rw [View.readCov_eq_canon']
  simp only [hn, first]
  clear hn first
  generalize (⟨x, hf, hb, o, gh, wo⟩ : Given) = B
  funext z
  have whole : (Rect.unit ![0, 0] ![512, 2816] inb_S512x2816_S512x2816_0_0).idx z = z := by
    funext a
    refine Fin.ext ?_
    match a with
    | 0 => show 0 + 1 * (z 0).val = (z 0).val; omega
    | 1 => show 0 + 1 * (z 1).val = (z 1).val; omega
  refine (congrArg _ whole).trans ?_
  clear whole
  canon_tiles v h
  all_goals
    first
    | refine Eq.trans (b := chunk (normed B g) _ _ v) ?_ (chunk_at B g wg wu z v (by decide) h0 h1 _ _ rfl rfl)
    | refine Eq.trans (b := chunk (normed B g) _ _ v) ?_
        (chunk_at B g wg wu z v (l := 0) (by decide) h0 (h1.trans (Nat.zero_add _).symm) _ _ rfl rfl)
    exact congrFun (own (chunk _ _ _)) v

end Ffn.Last
-- ==== Proof.Last.Ref.lean ====
/- The last step's reference: its result, as an array. -/
module

public import proofs.«01_k».proof.Proof.Last.Defs
public import proofs.«01_k».proof.Proof.Gen.Reference3Ideal.Run
public import Idealize.ShloMosaic.Lib.Pointwise.Index
import Idealize.ShloMosaic.Lib.Pointwise
import Idealize.ShloMosaic.Lib.ViewIndex

@[expose] public section

set_option maxRecDepth 16384

noncomputable section

namespace Ffn.LastRef

open Idealize.ShloMosaic Cert.Reference3Ideal Cert.Reference3Ideal.Gen

/-- The arrays that the step takes. -/
structure Args where
  x : FVec Ideal S8x4096x1024 .f32
  hf : FVec Ideal S8x4096x1024 .f32
  hb : FVec Ideal S8x4096x1024 .f32
  o : FVec Ideal S8x4096x1024 .f32
  gh : FVec Ideal S2x1024 .f32
  wo : FVec Ideal S2x1024x1024 .f32
  g : FVec Ideal S4x1024 .f32
  wg : FVec Ideal S4x1024x2816 .f32
  wu : FVec Ideal S4x1024x2816 .f32
  wd : FVec Ideal S4x2816x1024 .f32
  gf : FVec Ideal S1024 .f32

variable (A : Args)

/-- One token with the mLSTM's output added. -/
def Args.row (b : Fin 8) (τ : Fin 4096) : Fin 1024 → EReal :=
  added (fun k => A.x (ix3 b τ k)) (fun k => A.hf (ix3 b τ k) + A.hb (ix3 b τ k)) (fun k => A.o (ix3 b τ k)) (fun k => A.gh (ix2 1 k)) (fun k e => A.wo (ix3 1 k e))

/-- The step's output for one token. -/
def Args.token (b : Fin 8) (τ : Fin 4096) : Fin 1024 → EReal :=
  norm (fun e => out (A.row b τ) (fun k => A.g (ix2 3 k)) (fun k j => A.wg (ix3 3 k j)) (fun k j => A.wu (ix3 3 k j)) (fun j => A.wd (ix3 3 j e)) e)
    (fun k => A.gf (ix1 k))

/-- The step's output for every token, the tokens of all rows of the batch in one axis. -/
def Args.result : FVec Ideal S32768x1024 .f32 := fun y =>
  A.token ⟨(y 0).val / 4096, Nat.div_lt_of_lt_mul (y 0).isLt⟩ ⟨(y 0).val % 4096, Nat.mod_lt _ (by decide)⟩ (y 1)

/-- The reference's intermediate arrays: an array by heads, the heads normalised and put side by side again. -/
def byHeads (t : FVec Ideal S8x4096x1024 .f32) : FVec Ideal S8x8x4096x128 .f32 :=
  transpose S8x8x4096x128 [0, 2, 1, 3] (shapeCast _ t shapeCasts_S8x4096x1024_S8x4096x8x128) transposes_S8x4096x8x128_S8x8x4096x128_0_2_1_3

def headScaled (h : FVec Ideal S8x8x4096x128 .f32) : FVec Ideal S8x8x4096x128 .f32 :=
  mulf h (broadcastInDim S8x8x4096x128 ![0, 1, 2, 3] bcast_S8x8x4096x1_S8x8x4096x128_0_1_2_3 (Host.rsqrt (addf (Host.divf (broadcastInDim S8x8x4096x1 ![0, 1, 2] bcast_S8x8x4096_S8x8x4096x1_0_1_2 (Host.reduceAdd (mulf h h) (constant S_ .f32 0x00000000#32) reducesTo_S8x8x4096x128_S8x8x4096_d3 h_S_)) (broadcastInDim S8x8x4096x1 ![] bcast_S_S8x8x4096x1 (constant S_ .f32 0x43000000#32))) (broadcastInDim S8x8x4096x1 ![] bcast_S_S8x8x4096x1 (constant S_ .f32 0x358637BD#32)))))

def sideBySide (h : FVec Ideal S8x8x4096x128 .f32) : FVec Ideal S8x4096x1024 .f32 :=
  shapeCast _ (transpose S8x4096x8x128 [0, 2, 1, 3] h transposes_S8x8x4096x128_S8x4096x8x128_0_2_1_3) shapeCasts_S8x4096x8x128_S8x4096x1024

def gatedHeads (n o : FVec Ideal S8x4096x1024 .f32) (gh : FVec Ideal S2x1024 .f32) : FVec Ideal S8x4096x1024 .f32 :=
  mulf (mulf n (broadcastInDim S8x4096x1024 ![0, 1, 2] bcast_S1x1x1024_S8x4096x1024_0_1_2 (broadcastInDim S1x1x1024 ![2] bcast_S1024_S1x1x1024_2 (shapeCast _ (extractStridedSlice S1x1024 ![1, 0] gh slices_S2x1024_S1x1024_1_0) shapeCasts_S1x1024_S1024))))
    (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf o))))

def projected (x n : FVec Ideal S8x4096x1024 .f32) (wo : FVec Ideal S2x1024x1024 .f32) : FVec Ideal S8x4096x1024 .f32 :=
  addf x (Host.dotGeneral dot_S8x4096x1024_S1024x1024_S8x4096x1024_2_0_01_1_n_n none n (shapeCast _ (extractStridedSlice S1x1024x1024 ![1, 0, 0] wo slices_S2x1024x1024_S1x1024x1024_1_0_0) shapeCasts_S1x1024x1024_S1024x1024))

/-- Tokens normalised by their root mean square and scaled. -/
def rootScaled (t : FVec Ideal S8x4096x1024 .f32) (g : FVec Ideal S1024 .f32) : FVec Ideal S8x4096x1024 .f32 :=
  mulf (mulf t (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf t t) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

def scale (g : FVec Ideal S4x1024 .f32) : FVec Ideal S1024 .f32 :=
  shapeCast _ (extractStridedSlice S1x1024 ![3, 0] g slices_S4x1024_S1x1024_3_0) shapeCasts_S1x1024_S1024

def linearOf (n : FVec Ideal S8x4096x1024 .f32) (w : FVec Ideal S4x1024x2816 .f32) : FVec Ideal S8x4096x2816 .f32 :=
  Host.dotGeneral dot_S8x4096x1024_S1024x2816_S8x4096x2816_2_0_01_1_n_n none n
    (shapeCast _ (extractStridedSlice S1x1024x2816 ![3, 0, 0] w slices_S4x1024x2816_S1x1024x2816_3_0_0) shapeCasts_S1x1024x2816_S1024x2816)

def silued (a : FVec Ideal S8x4096x2816 .f32) : FVec Ideal S8x4096x2816 .f32 :=
  mulf a (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf a))))

def halfAdded (x : FVec Ideal S8x4096x1024 .f32) (h : FVec Ideal S8x4096x2816 .f32) (wd : FVec Ideal S4x2816x1024 .f32) : FVec Ideal S8x4096x1024 .f32 :=
  addf x (mulf (broadcastInDim S8x4096x1024 ![] bcast_S_S8x4096x1024 (constant S_ .f32 0x3F000000#32)) (Host.dotGeneral dot_S8x4096x2816_S2816x1024_S8x4096x1024_2_0_01_1_n_n none h
    (shapeCast _ (extractStridedSlice S1x2816x1024 ![3, 0, 0] wd slices_S4x2816x1024_S1x2816x1024_3_0_0) shapeCasts_S1x2816x1024_S2816x1024)))

def Args.tokens : FVec Ideal S8x4096x1024 .f32 :=
  projected A.x (gatedHeads (sideBySide (headScaled (addf (byHeads A.hf) (byHeads A.hb)))) A.o A.gh) A.wo

def Args.normed : FVec Ideal S8x4096x1024 .f32 := rootScaled A.tokens (scale A.g)

def Args.stepped : FVec Ideal S8x4096x1024 .f32 :=
  halfAdded A.tokens (mulf (silued (linearOf A.normed A.wg)) (linearOf A.normed A.wu)) A.wd

def Args.computed : FVec Ideal S32768x1024 .f32 :=
  shapeCast _ (rootScaled A.stepped A.gf) shapeCasts_S8x4096x1024_S32768x1024

theorem byHeads_at (t : FVec Ideal S8x4096x1024 .f32) (b hd : Fin 8) (τ : Fin 4096) (q : Fin 128) :
    byHeads t (ix4 b hd τ q) = t (ix3 b τ ⟨hd.val * 128 + q.val, by omega⟩) := by
  pointwise [byHeads]

theorem headScaled_at (h : FVec Ideal S8x8x4096x128 .f32) (b hd : Fin 8) (τ : Fin 4096) (q : Fin 128) :
    headScaled h (ix4 b hd τ q) = h (ix4 b hd τ q) * Ideal.rsqrt (Ideal.div (∑ q', h (ix4 b hd τ q') * h (ix4 b hd τ q')) headWidth + epsilon) := by
  unfold headWidth epsilon
  pointwise [headScaled]

theorem sideBySide_at (h : FVec Ideal S8x8x4096x128 .f32) (b : Fin 8) (τ : Fin 4096) (k : Fin 1024) :
    sideBySide h (ix3 b τ k) = h (ix4 b ⟨k.val / 128, by omega⟩ τ ⟨k.val % 128, by omega⟩) := by
  pointwise [sideBySide]

theorem gatedHeads_at (n o : FVec Ideal S8x4096x1024 .f32) (gh : FVec Ideal S2x1024 .f32) (b : Fin 8) (τ : Fin 4096) (k : Fin 1024) :
    gatedHeads n o gh (ix3 b τ k) = n (ix3 b τ k) * gh (ix2 1 k) * Ideal.logistic (o (ix3 b τ k)) := by
  unfold Ideal.logistic
  pointwise [gatedHeads]

theorem projected_at (x n : FVec Ideal S8x4096x1024 .f32) (wo : FVec Ideal S2x1024x1024 .f32) (b : Fin 8) (τ : Fin 4096) (e : Fin 1024) :
    projected x n wo (ix3 b τ e) = x (ix3 b τ e) + ∑ k, n (ix3 b τ k) * wo (ix3 1 k e) := by
  pointwise [projected]

theorem rootScaled_at (t : FVec Ideal S8x4096x1024 .f32) (g : FVec Ideal S1024 .f32) (b : Fin 8) (τ : Fin 4096) (k : Fin 1024) :
    rootScaled t g (ix3 b τ k) = norm (fun k => t (ix3 b τ k)) (fun k => g (ix1 k)) k := by
  unfold norm width epsilon
  pointwise [rootScaled]

theorem scale_at (g : FVec Ideal S4x1024 .f32) (k : Fin 1024) : scale g (ix1 k) = g (ix2 3 k) := by
  pointwise [scale]

theorem linearOf_at (n : FVec Ideal S8x4096x1024 .f32) (w : FVec Ideal S4x1024x2816 .f32) (b : Fin 8) (τ : Fin 4096) (j : Fin 2816) :
    linearOf n w (ix3 b τ j) = ∑ k, n (ix3 b τ k) * w (ix3 3 k j) := by
  pointwise [linearOf]

theorem silued_at (a : FVec Ideal S8x4096x2816 .f32) (b : Fin 8) (τ : Fin 4096) (j : Fin 2816) :
    silued a (ix3 b τ j) = a (ix3 b τ j) * Ideal.logistic (a (ix3 b τ j)) := by
  unfold Ideal.logistic
  pointwise [silued]

theorem halfAdded_at (x : FVec Ideal S8x4096x1024 .f32) (h : FVec Ideal S8x4096x2816 .f32) (wd : FVec Ideal S4x2816x1024 .f32) (b : Fin 8) (τ : Fin 4096) (e : Fin 1024) :
    halfAdded x h wd (ix3 b τ e) = x (ix3 b τ e) + half * ∑ j, h (ix3 b τ j) * wd (ix3 3 j e) := by
  unfold half
  pointwise [halfAdded]

theorem inOneAxis_at (t : FVec Ideal S8x4096x1024 .f32) (T : Fin 32768) (e : Fin 1024) :
    shapeCast S32768x1024 t shapeCasts_S8x4096x1024_S32768x1024 (ix2 T e) = t (ix3 ⟨T.val / 4096, by omega⟩ ⟨T.val % 4096, by omega⟩ e) := by
  pointwise

theorem tokens_row (b : Fin 8) (τ : Fin 4096) (e : Fin 1024) : A.tokens (ix3 b τ e) = A.row b τ e := by
  have sum : ∀ (hd : Fin 8) (q : Fin 128) (k : Fin 1024), k.val = hd.val * 128 + q.val →
      addf (byHeads A.hf) (byHeads A.hb) (ix4 b hd τ q) = A.hf (ix3 b τ k) + A.hb (ix3 b τ k) := fun hd q k hk => by
    rw [show k = ⟨hd.val * 128 + q.val, by omega⟩ from Fin.ext hk]
    exact congrArg₂ (· + ·) (byHeads_at A.hf b hd τ q) (byHeads_at A.hb b hd τ q)
  have heads : ∀ k, sideBySide (headScaled (addf (byHeads A.hf) (byHeads A.hb))) (ix3 b τ k)
      = headNorm (fun k => A.hf (ix3 b τ k) + A.hb (ix3 b τ k)) k := fun k => by
    refine (sideBySide_at _ b τ k).trans ((headScaled_at _ b _ τ _).trans ?_)
    refine congrArg₂ (· * ·) (sum _ _ k (by show k.val = k.val / 128 * 128 + k.val % 128; omega)) (congrArg (fun s => Ideal.rsqrt (Ideal.div s headWidth + epsilon)) ?_)
    exact Finset.sum_congr rfl fun q _ => congrArg₂ (· * ·) (sum _ q (sameHead k q) rfl) (sum _ q (sameHead k q) rfl)
  refine (projected_at _ _ _ b τ e).trans (congrArg (A.x (ix3 b τ e) + ·) (Finset.sum_congr rfl fun k _ => ?_))
  exact congrArg (· * A.wo (ix3 1 k e)) ((gatedHeads_at _ _ _ b τ k).trans (congrArg (fun h => h * _ * _) (heads k)))

theorem linear_row (w : FVec Ideal S4x1024x2816 .f32) (b : Fin 8) (τ : Fin 4096) (j : Fin 2816) :
    linearOf A.normed w (ix3 b τ j) = linear (A.row b τ) (fun k => A.g (ix2 3 k)) (fun k => w (ix3 3 k j)) :=
  (linearOf_at _ w b τ j).trans (Finset.sum_congr rfl fun k _ => congrArg (· * w (ix3 3 k j)) ((rootScaled_at _ _ b τ k).trans
    (congrArg₂ (fun x g => norm x g k) (funext fun k => tokens_row A b τ k) (funext fun k => scale_at A.g k))))

theorem stepped_row (b : Fin 8) (τ : Fin 4096) (e : Fin 1024) : A.stepped (ix3 b τ e)
    = out (A.row b τ) (fun k => A.g (ix2 3 k)) (fun k j => A.wg (ix3 3 k j)) (fun k j => A.wu (ix3 3 k j)) (fun j => A.wd (ix3 3 j e)) e := by
  refine (halfAdded_at _ _ _ b τ e).trans (congrArg₂ (fun x s => x + half * s) (tokens_row A b τ e) (Finset.sum_congr rfl fun j _ => ?_))
  refine congrArg (· * A.wd (ix3 3 j e)) (congrArg₂ (· * ·) ((silued_at _ b τ j).trans ?_) (linear_row A A.wu b τ j))
  rw [linear_row]

/-- The reference computes the step's output. -/
theorem computed_result : A.computed = A.result := by
  funext y
  refine ((congrArg A.computed (eq_ix2 y)).trans (inOneAxis_at _ (y 0) (y 1))).trans ((rootScaled_at _ _ _ _ (y 1)).trans ?_)
  exact congrArg (fun x => norm x _ (y 1)) (funext fun e => stepped_row A _ _ e)

variable (m : (ℓ : Loc nD τ sig) → Buf (Elt Ideal) ℓ) (c : Dev nD)

/-- The result that a run of the reference leaves. -/
theorem reference_result : Value.res_main_v75 (F := Ideal) m c = Args.result ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5), m ((c.tc : Thread nD τ).loc main_arg6),
    m ((c.tc : Thread nD τ).loc main_arg7), m ((c.tc : Thread nD τ).loc main_arg8), m ((c.tc : Thread nD τ).loc main_arg9), m ((c.tc : Thread nD τ).loc main_arg10)⟩ := by
  refine Eq.trans ?_ (computed_result _)
  unfold Value.res_main_v75
  rfl

end Ffn.LastRef
-- ==== Proof.Last.Run.lean ====
/- The last step's result array: every block is the step's output for its tokens. -/
module

public import proofs.«01_k».proof.Proof.Last.Point
public import proofs.«01_k».proof.Proof.Last.Ref
import Idealize.ShloMosaic.Lib.Pointwise

@[expose] public section

set_option maxRecDepth 16384

noncomputable section

namespace Ffn.Last

open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

theorem index : ∀ t : Fin cfg0.N, win0_0.index t = ![t.val, 0] ∧ win0_1.index t = ![3, 0, 0] ∧ win0_2.index t = ![3, 0, 0]
    ∧ win0_3.index t = ![3, 0, 0] ∧ win0_4.index t = ![3, 0, 0] ∧ win0_5.index t = ![t.val, 0] ∧ win0_6.index t = ![t.val, 0]
    ∧ win0_7.index t = ![t.val, 0] ∧ win0_8.index t = ![1, 0, 0] ∧ win0_9.index t = ![1, 0, 0] ∧ win0_10.index t = ![0, 0]
    ∧ win0_11.index t = ![t.val, 0] := by decide +kernel

/-- The arguments on the device. -/
def args : LastRef.Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

/-- The arrays that the host code hands to the call: tokens in one axis, scales with an axis more, weights rounded. -/
theorem V_x : V m c main_v4 = shapeCast S32768x1024 (args m c).x shapeCasts_S8x4096x1024_S32768x1024 := by
  unfold V; after_reads_simp
  rfl

theorem V_hf : V m c main_v0 = shapeCast S32768x1024 (args m c).hf shapeCasts_S8x4096x1024_S32768x1024 := by
  unfold V; after_reads_simp
  rfl

theorem V_hb : V m c main_v1 = shapeCast S32768x1024 (args m c).hb shapeCasts_S8x4096x1024_S32768x1024 := by
  unfold V; after_reads_simp
  rfl

theorem V_o : V m c main_v2 = shapeCast S32768x1024 (args m c).o shapeCasts_S8x4096x1024_S32768x1024 := by
  unfold V; after_reads_simp
  rfl

theorem V_gh : V m c main_v9 = shapeCast S2x1x1024 (args m c).gh shapeCasts_S2x1024_S2x1x1024 := by
  unfold V; after_reads_simp
  rfl

theorem V_wo : V m c main_v3 = (truncf .bf16 (args m c).wo bitsLt_bf16_f32 : FVec Ideal S2x1024x1024 .bf16) := by
  unfold V; after_reads_simp
  rfl

theorem V_g : V m c main_v8 = shapeCast S4x1x1024 (args m c).g shapeCasts_S4x1024_S4x1x1024 := by
  unfold V; after_reads_simp
  rfl

theorem V_wg : V m c main_v5 = (truncf .bf16 (args m c).wg bitsLt_bf16_f32 : FVec Ideal S4x1024x2816 .bf16) := by
  unfold V; after_reads_simp
  rfl

theorem V_wu : V m c main_v6 = (truncf .bf16 (args m c).wu bitsLt_bf16_f32 : FVec Ideal S4x1024x2816 .bf16) := by
  unfold V; after_reads_simp
  rfl

theorem V_wd : V m c main_v7 = (truncf .bf16 (args m c).wd bitsLt_bf16_f32 : FVec Ideal S4x2816x1024 .bf16) := by
  unfold V; after_reads_simp
  rfl

theorem V_gf : V m c main_v10 = shapeCast S1x1024 (args m c).gf shapeCasts_S1024_S1x1024 := by
  unfold V; after_reads_simp
  rfl

/-- The reshapes, at an index. -/
theorem oneAxis_at (x : FVec Ideal S8x4096x1024 .f32) (T : Fin 32768) (k : Fin 1024) :
    shapeCast S32768x1024 x shapeCasts_S8x4096x1024_S32768x1024 (ix2 T k)
      = x (ix3 ⟨T.val / 4096, by omega⟩ ⟨T.val % 4096, by omega⟩ k) := by
  pointwise

theorem headScale_at (g : FVec Ideal S2x1024 .f32) (k : Fin 1024) :
    shapeCast S2x1x1024 g shapeCasts_S2x1024_S2x1x1024 (ix3 1 0 k) = g (ix2 1 k) := by
  pointwise

theorem stepScale_at (g : FVec Ideal S4x1024 .f32) (k : Fin 1024) :
    shapeCast S4x1x1024 g shapeCasts_S4x1024_S4x1x1024 (ix3 3 0 k) = g (ix2 3 k) := by
  pointwise

theorem finalScale_at (g : FVec Ideal S1024 .f32) (k : Fin 1024) :
    shapeCast S1x1024 g shapeCasts_S1024_S1x1024 (ix2 0 k) = g (ix1 k) := by
  pointwise

/-- The blocks that a grid point reads, at an index. -/
theorem x_at (r : Fin 512) (k : Fin 1024) (T : Fin 32768) (hT : T.val = t.val * 512 + r.val) :
    iblk m c 0 t (ix2 r k) = V m c main_v4 (ix2 T k) := by
  blk_ext [iblk, index t, hT]

theorem hf_at (r : Fin 512) (k : Fin 1024) (T : Fin 32768) (hT : T.val = t.val * 512 + r.val) :
    iblk m c 5 t (ix2 r k) = V m c main_v0 (ix2 T k) := by
  blk_ext [iblk, index t, hT]

theorem hb_at (r : Fin 512) (k : Fin 1024) (T : Fin 32768) (hT : T.val = t.val * 512 + r.val) :
    iblk m c 6 t (ix2 r k) = V m c main_v1 (ix2 T k) := by
  blk_ext [iblk, index t, hT]

theorem o_at (r : Fin 512) (k : Fin 1024) (T : Fin 32768) (hT : T.val = t.val * 512 + r.val) :
    iblk m c 7 t (ix2 r k) = V m c main_v2 (ix2 T k) := by
  blk_ext [iblk, index t, hT]

theorem gh_at (k : Fin 1024) : iblk m c 8 t (ix3 0 0 k) = V m c main_v9 (ix3 1 0 k) := by
  blk_ext [iblk, index t]

theorem wo_at (k e : Fin 1024) : iblk m c 9 t (ix3 0 k e) = V m c main_v3 (ix3 1 k e) := by
  blk_ext [iblk, index t]

theorem g_at (k : Fin 1024) : iblk m c 1 t (ix3 0 0 k) = V m c main_v8 (ix3 3 0 k) := by
  blk_ext [iblk, index t]

theorem wg_at (k : Fin 1024) (j : Fin 2816) : iblk m c 2 t (ix3 0 k j) = V m c main_v5 (ix3 3 k j) := by
  blk_ext [iblk, index t]

theorem wu_at (k : Fin 1024) (j : Fin 2816) : iblk m c 3 t (ix3 0 k j) = V m c main_v6 (ix3 3 k j) := by
  blk_ext [iblk, index t]

theorem wd_at (j : Fin 2816) (e : Fin 1024) : iblk m c 4 t (ix3 0 j e) = V m c main_v7 (ix3 3 j e) := by
  blk_ext [iblk, index t]

theorem gf_at (k : Fin 1024) : iblk m c 10 t (ix2 0 k) = V m c main_v10 (ix2 0 k) := by
  blk_ext [iblk, index t]

/-- The tokens with the mLSTM's output added, of a grid point, are those of the arguments. -/
theorem given_row (r : Fin 512) (T : Fin 32768) (hT : T.val = t.val * 512 + r.val) :
    (given m c t).row r = (args m c).row ⟨T.val / 4096, by omega⟩ ⟨T.val % 4096, by omega⟩ := by
  have hx : (fun k => iblk m c 0 t (ix2 r k)) = fun k => (args m c).x (ix3 ⟨T.val / 4096, by omega⟩ ⟨T.val % 4096, by omega⟩ k) :=
    funext fun k => ((x_at m c t r k T hT).trans (congrFun (V_x m c) _)).trans (oneAxis_at _ T k)
  have hh : (fun k => (given m c t).hf (ix2 r k) + (given m c t).hb (ix2 r k)) = fun k => (args m c).hf (ix3 ⟨T.val / 4096, by omega⟩ ⟨T.val % 4096, by omega⟩ k)
      + (args m c).hb (ix3 ⟨T.val / 4096, by omega⟩ ⟨T.val % 4096, by omega⟩ k) :=
    funext fun k => congrArg₂ (fun a b : EReal => a + b) (((hf_at m c t r k T hT).trans (congrFun (V_hf m c) _)).trans (oneAxis_at _ T k))
      (((hb_at m c t r k T hT).trans (congrFun (V_hb m c) _)).trans (oneAxis_at _ T k))
  have ho : (fun k => iblk m c 7 t (ix2 r k)) = fun k => (args m c).o (ix3 ⟨T.val / 4096, by omega⟩ ⟨T.val % 4096, by omega⟩ k) :=
    funext fun k => ((o_at m c t r k T hT).trans (congrFun (V_o m c) _)).trans (oneAxis_at _ T k)
  have hg : (fun k => iblk m c 8 t (ix3 0 0 k)) = fun k => (args m c).gh (ix2 1 k) :=
    funext fun k => ((gh_at m c t k).trans (congrFun (V_gh m c) _)).trans (headScale_at _ k)
  have hw : (fun k e => iblk m c 9 t (ix3 0 k e)) = fun k e => (args m c).wo (ix3 1 k e) :=
    funext fun k => funext fun e => (wo_at m c t k e).trans (congrFun (V_wo m c) _)
  exact congr (congr (congr (congr (congrArg added hx) hh) ho) hg) hw

/-- The block of a grid point holds the step's output for its 512 tokens. -/
theorem block_result (r : Fin 512) (e : Fin 1024) (T : Fin 32768) (hT : T.val = t.val * 512 + r.val) :
    block (given m c t) (iblk m c 1 t) (iblk m c 2 t) (iblk m c 3 t) (iblk m c 4 t) (iblk m c 10 t) (ix2 r e) = (args m c).result (ix2 T e) := by
  have hg : (fun k => iblk m c 1 t (ix3 0 0 k)) = fun k => (args m c).g (ix2 3 k) :=
    funext fun k => ((g_at m c t k).trans (congrFun (V_g m c) _)).trans (stepScale_at _ k)
  have hwg : (fun k j => iblk m c 2 t (ix3 0 k j)) = fun k j => (args m c).wg (ix3 3 k j) :=
    funext fun k => funext fun j => (wg_at m c t k j).trans (congrFun (V_wg m c) _)
  have hwu : (fun k j => iblk m c 3 t (ix3 0 k j)) = fun k j => (args m c).wu (ix3 3 k j) :=
    funext fun k => funext fun j => (wu_at m c t k j).trans (congrFun (V_wu m c) _)
  have hwd : ∀ e, (fun j => iblk m c 4 t (ix3 0 j e)) = fun j => (args m c).wd (ix3 3 j e) := fun e =>
    funext fun j => (wd_at m c t j e).trans (congrFun (V_wd m c) _)
  have hgf : (fun k => iblk m c 10 t (ix2 0 k)) = fun k => (args m c).gf (ix1 k) :=
    funext fun k => ((gf_at m c t k).trans (congrFun (V_gf m c) _)).trans (finalScale_at _ k)
  refine Eq.trans (b := norm (fun e => out ((given m c t).row r) (fun k => iblk m c 1 t (ix3 0 0 k)) (fun k j => iblk m c 2 t (ix3 0 k j))
    (fun k j => iblk m c 3 t (ix3 0 k j)) (fun j => iblk m c 4 t (ix3 0 j e)) e) (fun k => iblk m c 10 t (ix2 0 k)) e) rfl ?_
  refine Eq.trans (b := (args m c).token ⟨T.val / 4096, by omega⟩ ⟨T.val % 4096, by omega⟩ e) ?_ rfl
  unfold LastRef.Args.token
  refine congrArg₂ (fun x g => norm x g e) (funext fun e' => ?_) hgf
  exact congr (congr (congr (congr (congr (congrArg out (given_row m c t r T hT)) hg) hwg) hwu) (hwd e')) rfl

theorem block_result_at (y : S512x1024.Idx) (z : S32768x1024.Idx) (h0 : (z 0).val = t.val * 512 + (y 0).val) (h1 : (z 1).val = (y 1).val) :
    block (given m c t) (iblk m c 1 t) (iblk m c 2 t) (iblk m c 3 t) (iblk m c 4 t) (iblk m c 10 t) y = (args m c).result z := by
  have h1' : z 1 = y 1 := Fin.ext h1
  refine ((congrArg (block _ _ _ _ _ _) (eq_ix2 y)).trans (block_result m c t (y 0) (y 1) (z 0) h0)).trans ?_
  exact (congrArg (fun e => (args m c).result (ix2 (z 0) e)) h1'.symm).trans (congrArg (args m c).result (eq_ix2 z).symm)

/-- So the blocks make up the step's output for all tokens. -/
theorem kernel_result : (dats m 0 c).arrAt 11 cfg0.N = (args m c).result := by
  refine (dats m 0 c).arrAt_eq_of_covers 11 _ (by decide +kernel) fun t hf y => ?_
  rw [after0_11, point m c t]
  refine block_result_at m c t _ _ ?_ ?_
  · blk_simp [index t]
  · blk_simp [index t]

end Ffn.Last
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.KernelIdeal.Value
public import proofs.«01_k».proof.Proof.Gen.Pre_finite
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Scan.KFinal
public import proofs.«01_k».proof.Proof.Scan.RefRun
public import proofs.«01_k».proof.Proof.Scan.Finite
public import proofs.«01_k».proof.Proof.Ffn.Run
public import proofs.«01_k».proof.Proof.Last.Run
public import Idealize.ShloMosaic.Adequacy
public import Idealize.ShloMosaic.Init

@[expose] public section

noncomputable section

namespace Cert.Proof

open Idealize.ShloMosaic Idealize.SL.Sem Cert.Kernel

/-- The reference ends with its arguments unchanged and every semaphore counter at zero. -/
theorem referenceFrame : Cert.quiescent_ReferenceIdeal (hReferenceIdeal := Cert.ReferenceIdeal.Gen.facts) := fun m ρ _ =>
  (θ_run Cert.ReferenceIdeal.defs _ _).mono
    (fun r h => And.intro (fun c => (h c).2.2) (Idealize.ShloMosaic.sem_eq_zero_of_no_sems (by decide) r.2))
    (Cert.ReferenceIdeal.Value.run (F := Ideal) m ρ)

/-- So does the feed-forward step's reference. -/
theorem reference2Frame : Cert.quiescent_Reference2Ideal (hReference2Ideal := Cert.Reference2Ideal.Gen.facts) := fun m ρ _ =>
  (θ_run Cert.Reference2Ideal.defs _ _).mono
    (fun r h => And.intro (fun c => (h c).2) (Idealize.ShloMosaic.sem_eq_zero_of_no_sems (by decide) r.2))
    (Cert.Reference2Ideal.Value.run (F := Ideal) m ρ)

/-- And the last step's reference. -/
theorem reference3Frame : Cert.quiescent_Reference3Ideal (hReference3Ideal := Cert.Reference3Ideal.Gen.facts) := fun m ρ _ =>
  (θ_run Cert.Reference3Ideal.defs _ _).mono
    (fun r h => And.intro (fun c => (h c).2) (Idealize.ShloMosaic.sem_eq_zero_of_no_sems (by decide) r.2))
    (Cert.Reference3Ideal.Value.run (F := Ideal) m ρ)

/-- The two results of the kernel are the two scans, and so are those of the reference. -/
theorem scans : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfin hagree
  have real : ∀ c : Dev Cert.KernelIdeal.nD, ∃ X : MlstmScan.Given, X.Are
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
    fun c => ⟨_, MlstmScan.reals_are _ _ _ _ (hfin c)⟩
  choose X hX using real
  refine ⟨fun c => (X c).result false, fun c => (X c).result true, ?_, ?_⟩
  · exact (θ_run Cert.KernelIdeal.defs _ _).mono
      (fun r h c => ⟨(h c).1.trans (MlstmScan.Kernel.result_fw m c (hX c)), (h c).2.1.trans (MlstmScan.Kernel.result_bw m c (hX c)), (h c).2.2⟩)
      (Cert.KernelIdeal.Value.run_blocks (F := Ideal) m ρ)
  · refine (θ_run Cert.ReferenceIdeal.defs _ _).mono
      (fun r h c => ⟨(h c).1.trans (MlstmScan.reference_fw ?_), (h c).2.1.trans (MlstmScan.reference_bw ?_), (h c).2.2⟩)
      (Cert.ReferenceIdeal.StepRun.run_iter (F := Ideal) m' ρ' (fun c => MlstmScan.states
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))) (fun c => rfl) (fun c n => rfl))
    all_goals
      obtain ⟨h0, h1, h2, h3⟩ := hagree c
      rw [h0, h1, h2, h3]
      exact hX c

/-- The feed-forward kernel's result is the step's output for every token, and so is its reference's. -/
theorem feedForward : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Ffn.Kernel.results m c, ?_, ?_⟩
  · exact (θ_run Cert.Kernel2Ideal.defs _ _).mono (fun r h c => ⟨(h c).1.trans (Ffn.Kernel.kernel_result m c), (h c).2⟩)
      (Cert.Kernel2Ideal.Value.run_blocks (F := Ideal) m ρ)
  · refine (θ_run Cert.Reference2Ideal.defs _ _).mono
      (fun r h c => ⟨(h c).1.trans ((Ffn.reference_result _ _ _ _ _).trans ?_), (h c).2⟩) (Cert.Reference2Ideal.Value.run (F := Ideal) m' ρ')
    obtain ⟨h0, h1, h2, h3, h4⟩ := hagree c
    rw [h0, h1, h2, h3, h4]
    rfl

/-- The last step's kernel leaves the step's output for every token, and so does its reference. -/
theorem lastStep : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Ffn.Last.args m c).result, ?_, ?_⟩
  · exact (θ_run Cert.Kernel3Ideal.defs _ _).mono (fun r h c => ⟨(h c).1.trans (Ffn.Last.kernel_result m c), (h c).2⟩)
      (Cert.Kernel3Ideal.Value.run_blocks (F := Ideal) m ρ)
  · refine (θ_run Cert.Reference3Ideal.defs _ _).mono
      (fun r h c => ⟨(h c).1.trans ((Ffn.LastRef.reference_result m' c).trans ?_), (h c).2⟩) (Cert.Reference3Ideal.Value.run (F := Ideal) m' ρ')
    obtain ⟨h0, h1, h2, h3, h4, h5, h6, h7, h8, h9, h10⟩ := hagree c
    rw [h0, h1, h2, h3, h4, h5, h6, h7, h8, h9, h10]
    rfl

theorem claim : Cert.Claim :=
  ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  referenceFrame,
  fun m ρ _ => referenceFrame m ρ trivial,
  fun m ρ _ => Cert.Kernel2.Gen.frame m ρ,
  fun m ρ _ => Cert.Kernel2Ideal.Gen.frame m ρ,
  reference2Frame,
  fun m ρ _ => Cert.Kernel3.Gen.frame m ρ,
  fun m ρ _ => Cert.Kernel3Ideal.Gen.frame m ρ,
  reference3Frame,
  trivial,
  scans,
  trivial,
  feedForward,
  trivial,
  lastStep⟩

end Cert.Proof

end
